-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x8192x3584 : Shape := ⟨3, ![2, 8192, 3584]⟩
abbrev S3584x14336 : Shape := ⟨2, ![3584, 14336]⟩
abbrev S_ : Shape := ⟨0, ![]⟩

class Facts : Prop where
  bcast_S_S2x8192x3584 : S_.BroadcastsInDim S2x8192x3584 (![] : Fin 0 → Fin S2x8192x3584.rank)
  reducesTo_S2x8192x3584_S_d0_1_2 : S2x8192x3584.ReducesTo [0, 1, 2] S_
  h_S_ : 0 < S_.numel

variable [Facts]

def fn {F : FTy → Type} [FloatOps F] (main_arg0 : FVec F S2x8192x3584 .bf16) (main_arg1 : FVec F S3584x14336 .fp8e4m3) (main_arg2 : FVec F S_ .f32) : IVec S_ 1 :=
  let main_v0 : FVec F S2x8192x3584 .bf16 := Host.absf main_arg0
  let main_cst : FVec F S_ .bf16 := constant S_ .bf16 0x7F7F#16
  let main_v1 : FVec F S2x8192x3584 .bf16 := broadcastInDim S2x8192x3584 ![] bcast_S_S2x8192x3584 main_cst
  let main_v2 : IVec S2x8192x3584 1 := cmpf .ole main_v0 main_v1
  let main_cst_0 : FVec F S_ .bf16 := constant S_ .bf16 0x7F80#16
  let main_v3 : FVec F S2x8192x3584 .bf16 := broadcastInDim S2x8192x3584 ![] bcast_S_S2x8192x3584 main_cst_0
  let main_v4 : IVec S2x8192x3584 1 := cmpf .oeq main_v0 main_v3
  let main_v5 : IVec S2x8192x3584 1 := ori main_v2 main_v4
  let main_c : IVec S_ 1 := constantI S_ 1 1#1
  let main_v6 : IVec S_ 1 := (fun x v => Host.reduce IntOp.andi x v reducesTo_S2x8192x3584_S_d0_1_2 h_S_) main_v5 main_c
  main_v6
-- ==== Kernel.lean ====
abbrev S2x8192x3584 : Shape := ⟨3, ![2, 8192, 3584]⟩
abbrev S3584x14336 : Shape := ⟨2, ![3584, 14336]⟩
abbrev S_ : Shape := ⟨0, ![]⟩
abbrev S16384x3584 : Shape := ⟨2, ![16384, 3584]⟩
abbrev S8x128 : Shape := ⟨2, ![8, 128]⟩
abbrev S1024x3584 : Shape := ⟨2, ![1024, 3584]⟩
abbrev S16x3584 : Shape := ⟨2, ![16, 3584]⟩
abbrev S3584 : Shape := ⟨1, ![3584]⟩
abbrev S1x3584 : Shape := ⟨2, ![1, 3584]⟩
abbrev S1 : Shape := ⟨1, ![1]⟩
abbrev S1x1 : Shape := ⟨2, ![1, 1]⟩
abbrev S16384x14336 : Shape := ⟨2, ![16384, 14336]⟩
abbrev S256x3584 : Shape := ⟨2, ![256, 3584]⟩
abbrev S256x1024 : Shape := ⟨2, ![256, 1024]⟩
abbrev S3584x1024 : Shape := ⟨2, ![3584, 1024]⟩
abbrev S2x8192x14336 : Shape := ⟨3, ![2, 8192, 14336]⟩

abbrev nBuf : Space → Nat
  | .hbm => 15
  | .vmem => 12
  | .smem => 2
  | _ => 0

abbrev bufTy : (tb : Table) → Fin (tcTables nBuf tb) → BufTy
  | .hbm, ⟨0, _⟩ => ⟨S2x8192x3584, .bf16⟩
  | .hbm, ⟨1, _⟩ => ⟨S3584x14336, .fp8e4m3⟩
  | .hbm, ⟨2, _⟩ => ⟨S_, .f32⟩
  | .hbm, ⟨3, _⟩ => ⟨S16384x3584, .bf16⟩
  | .hbm, ⟨4, _⟩ => ⟨S8x128, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S16384x14336, .bf16⟩
  | .hbm, ⟨12, _⟩ => ⟨S16384x3584, .fp8e4m3⟩
  | .hbm, ⟨13, _⟩ => ⟨S2x8192x14336, .bf16⟩
  | .hbm, ⟨14, _⟩ => ⟨S2x8192x3584, .fp8e4m3⟩
  | .local _ .vmem, ⟨0, _⟩ => ⟨S1024x3584, .bf16⟩
  | .local _ .vmem, ⟨1, _⟩ => ⟨S1024x3584, .bf16⟩
  | .local _ .vmem, ⟨2, _⟩ => ⟨S8x128, .f32⟩
  | .local _ .vmem, ⟨3, _⟩ => ⟨S8x128, .f32⟩
  | .local _ .vmem, ⟨4, _⟩ => ⟨S16x3584, .bf16⟩
  | .local _ .vmem, ⟨5, _⟩ => ⟨S256x3584, .bf16⟩
  | .local _ .vmem, ⟨6, _⟩ => ⟨S256x3584, .bf16⟩
  | .local _ .vmem, ⟨7, _⟩ => ⟨S3584x14336, .fp8e4m3⟩
  | .local _ .vmem, ⟨8, _⟩ => ⟨S256x1024, .bf16⟩
  | .local _ .vmem, ⟨9, _⟩ => ⟨S256x1024, .bf16⟩
  | .local _ .vmem, ⟨10, _⟩ => ⟨S256x3584, .fp8e4m3⟩
  | .local _ .vmem, ⟨11, _⟩ => ⟨S256x3584, .fp8e4m3⟩
  | .local _ .smem, ⟨0, _⟩ => ⟨S1x1, .f32⟩
  | .local _ .smem, ⟨1, _⟩ => ⟨S1x1, .f32⟩
  | _, _ => ⟨S2x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_off1 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c16_i32 : BitVec 32 := 16#32
  let v12 : BitVec 32 := Scalar.muli arg5 c16_i32
  let v13 : Index := Scalar.indexCast v12
  let c0_7 : Index := 0#32
  ![v13.toNat, 0]
def k0_cond2 (i : grid0.Coords) : BitVec 1 :=
  let arg0 : BitVec 32 := BitVec.ofNat 32 (i 0).val
  let c15_i32 : BitVec 32 := 15#32
  let v9 : BitVec 1 := Scalar.cmpi .eq arg0 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![64, 14], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x3584 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S3584x14336 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x3584 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S2x8192x3584 : Shape := ⟨3, ![2, 8192, 3584]⟩
abbrev S3584x14336 : Shape := ⟨2, ![3584, 14336]⟩
abbrev S_ : Shape := ⟨0, ![]⟩
abbrev S1x1 : Shape := ⟨2, ![1, 1]⟩
abbrev S16384x3584 : Shape := ⟨2, ![16384, 3584]⟩
abbrev S16384x14336 : Shape := ⟨2, ![16384, 14336]⟩
abbrev S3584 : Shape := ⟨1, ![3584]⟩
abbrev S1x3584 : Shape := ⟨2, ![1, 3584]⟩
abbrev S1 : Shape := ⟨1, ![1]⟩
abbrev S1x254 : Shape := ⟨2, ![1, 254]⟩
abbrev S2x8192x14336 : Shape := ⟨3, ![2, 8192, 14336]⟩

abbrev nBuf : Space → Nat
  | .hbm => 11
  | .vmem => 6
  | .smem => 0
  | _ => 0

abbrev bufTy : (tb : Table) → Fin (tcTables nBuf tb) → BufTy
  | .hbm, ⟨0, _⟩ => ⟨S2x8192x3584, .bf16⟩
  | .hbm, ⟨1, _⟩ => ⟨S3584x14336, .fp8e4m3⟩
  | .hbm, ⟨2, _⟩ => ⟨S_, .f32⟩
  | .hbm, ⟨3, _⟩ => ⟨S1x1, .f32⟩
  | .hbm, ⟨4, _⟩ => ⟨S16384x3584, .bf16⟩
  | .hbm, ⟨5, _⟩ => ⟨S16384x14336, .bf16⟩
  | .hbm, ⟨6, _⟩ => ⟨S16384x3584, .fp8e4m3⟩
  | .hbm, ⟨7, _⟩ => ⟨S1x1, .f32⟩
  | .hbm, ⟨8, _⟩ => ⟨S2x8192x14336, .bf16⟩
  | .hbm, ⟨9, _⟩ => ⟨S2x8192x3584, .fp8e4m3⟩
  | .hbm, ⟨10, _⟩ => ⟨S_, .f32⟩
  | .local _ .vmem, ⟨0, _⟩ => ⟨S1x1, .f32⟩
  | .local _ .vmem, ⟨1, _⟩ => ⟨S16384x3584, .bf16⟩
  | .local _ .vmem, ⟨2, _⟩ => ⟨S3584x14336, .fp8e4m3⟩
  | .local _ .vmem, ⟨3, _⟩ => ⟨S16384x14336, .bf16⟩
  | .local _ .vmem, ⟨4, _⟩ => ⟨S16384x3584, .fp8e4m3⟩
  | .local _ .vmem, ⟨5, _⟩ => ⟨S1x1, .f32⟩
  | _, _ => ⟨S2x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Common.lean ====
/-
  Reads and stores of a whole buffer: a store through the rectangle that is the whole buffer leaves exactly its
  payload, and a load through it reads exactly the contents.
-/
module

public import Idealize.ShloMosaic.Lib.Pipeline.Value
public import Idealize.ShloMosaic.Lib.Pipeline.ValueKit
public import Idealize.ShloMosaic.Lib.Pipeline.FrameBody

@[expose] public section

namespace Cert.Own

open Idealize.ShloMosaic

variable {Val : EltTy → Type} [∀ e, Nonempty (Val e)] {S : Shape} {e : EltTy}

/-- After a store of the whole buffer, whatever was there before, the buffer reads the payload. -/
theorem read_store_whole {sig : RefSig} {κ : Kind} {sp : Space} (v : View sig κ sp S e) (f : v.ty.Contents Val)
    {off : Fin S.rank → Nat} (inb : ∀ a, off a + S.size a ≤ S.size a) (w : S.Idx → Val e)
    (L : List (View.Piece Val S e)) (h : ∀ a, off a = 0) :
    v.read Val (v.writes Val f ((⟨Rect.unit off (no_index S.size) inb, w⟩ : View.Piece Val S e) :: L)) = w := by
  rw [View.read_writes_eq_canon v f _ fun y => ⟨_, List.mem_cons_self .., ?_⟩]
  · exact View.canon_cons_unit_lit inb w L h
  · exact View.mem_set_unit_zero (View.eq_zero_of_forall h) inb y

omit [∀ e, Nonempty (Val e)] in
/-- A load of the whole buffer, held at the contents that read `X`, reads `X`. -/
theorem readAt_whole {sig : RefSig} {κ : Kind} {sp : Space} {m : Memref sig κ sp S e} (hm : m.IsWhole)
    {off : Fin S.rank → Nat} (inb : ∀ a, off a + S.size a ≤ S.size a) (X : S.Idx → Val e) (h : ∀ a, off a = 0) :
    View.readAt Val m.view (Rect.unit off (no_index S.size) inb).toLoadRect (hm.unread X) = X :=
  (funext fun y => congrFun (hm.read_unread X) _ :
    View.readAt Val m.view (Rect.unit off (no_index S.size) inb).toLoadRect (hm.unread X) = View.ld X (Rect.unit off (no_index S.size) inb)).trans
    (View.ld_unit_lit inb X h)

end Cert.Own
-- ==== Proof.Kernel.AmaxRun.lean ====
/-
  The first kernel function, `cc0_amax`, run once over symbolic contents: one block of 1024 rows is folded, 16 rows
  at a time, into the 16-row scratch by the elementwise maximum of absolute values; the last point turns the scratch
  into the scale and the reciprocal scale.
-/
module

public import proofs.«01_k».proof.Proof.Gen.Kernel.Skeleton
public import proofs.«01_k».proof.Proof.Gen.Kernel.Loops
public import proofs.«01_k».proof.Proof.Gen.Kernel.Points
public import proofs.«01_k».proof.Proof.Gen.Kernel.Launch
public import Idealize.ShloMosaic.Lib.Pipeline.Value
public import Idealize.ShloMosaic.Lib.Pipeline.ValueKit
public import Idealize.ShloMosaic.Lib.Pipeline.FrameBody
public import proofs.«01_k».proof.Proof.Common
public import Idealize.ShloMosaic.Lib.Exec
public import Idealize.ShloMosaic.Lib.Tactic
public import Idealize.ShloMosaic.Lib.Pipeline.Kit
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Sixteen rows of a block, from row `16 * k`. -/
abbrev rows (x : Vec F S1024x3584 .bf16) (k : Fin k0_t1_loop.trips) : Vec F S16x3584 .bf16 :=
  View.ld x (Rect.unit (s := S1024x3584) (k0_off1 k) S16x3584.size (k0_off1_inb k))

/-- The running maximum before trip `k` of the loop over a block. -/
def rowMax (x : Vec F S1024x3584 .bf16) (acc : Vec F S16x3584 .bf16) : ℕ → Vec F S16x3584 .bf16
  | 0 => acc
  | k + 1 => if h : k < k0_t1_loop.trips then k0_pay2 (rowMax x acc k) (rows x ⟨k, h⟩) else rowMax x acc k

theorem tripR_eq (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (x : Vec F S1024x3584 .bf16)
    (k : Fin k0_t1_loop.trips) (acc : Vec F S16x3584 .bf16) :
    tripR_k0_t1 (F := F) Variants.none c none i arg1 harg1 arg2 harg2 arg3 harg3 arg4 harg4 (harg1.unread x) k acc
      = k0_pay2 acc (rows x k) := by
  unfold tripR_k0_t1 trip_k0_t1
  dsimp only
  congr 1
  funext y
  exact congrFun (harg1.read_unread x) _

theorem st_eq (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (x : Vec F S1024x3584 .bf16) (acc : Vec F S16x3584 .bf16) :
    ∀ k : ℕ, k ≤ k0_t1_loop.trips →
      st_k0_t1 (F := F) Variants.none c none i arg1 harg1 arg2 harg2 arg3 harg3 arg4 harg4 (harg1.unread x) acc k = rowMax x acc k
  | 0, _ => rfl
  | k + 1, h => by
    have hk : k < k0_t1_loop.trips := h
    refine (st_k0_t1_succ (F := F) Variants.none c none i arg1 harg1 arg2 harg2 arg3 harg3 arg4 harg4 (harg1.unread x) acc ⟨k, hk⟩).trans ?_
    rw [tripR_eq, st_eq c i arg1 harg1 arg2 harg2 arg3 harg3 arg4 harg4 x acc k hk.le]
    show _ = if h : k < k0_t1_loop.trips then k0_pay2 (rowMax x acc k) (rows x ⟨k, h⟩) else rowMax x acc k
    rw [dif_pos hk]

/-- The first condition of the body: the first grid point. -/
abbrev atFirst (i : grid0.Coords) : Prop :=
  (Scalar.cmpi .ne (Scalar.extui (Scalar.cmpi .eq (BitVec.ofNat 32 (i 0).val) 0#32) : BitVec 32) 0#32) = 1#1
/-- The second condition of the body: the last grid point. -/
abbrev atLast (i : grid0.Coords) : Prop := k0_cond2 i = 1#1

/-- The scratch after a block has been folded into it. -/
abbrev folded (x : Vec F S1024x3584 .bf16) (acc : Vec F S16x3584 .bf16) : Vec F S16x3584 .bf16 :=
  k0_pay3 (rowMax x acc k0_t1_loop.trips)

set_option maxHeartbeats 1000000 in
/-- The first point: the scratch starts at zero. -/
theorem run_first (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : atFirst i) (hc1 : ¬ atLast i)
    (x : Vec F S1024x3584 .bf16) (E : Set ℕ) (K : PUnit → sProp 𝕄) :
    iprop(owns (c : Thread nD τ) arg1 fullShare x ∗ (∃ d, owns (c : Thread nD τ) arg4 fullShare d)
        ∗ (iprop(owns (c : Thread nD τ) arg1 fullShare x ∗ owns (c : Thread nD τ) arg4 fullShare (folded x (k0_pay1 (F := F)))) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%d3, %f3, -, HS0⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr; swap; · iexact HS0
  ipureintro
  rw [View.read_writes_junk_eq_canon, View.canon_cons_unit_lit _ _ _ (by decide)]
  unfold run_first.sl.v3 run_first.sl.HS0_1
  rw [View.readCov_unit_lit _ _ _ (by decide)]
  exact congrArg k0_pay3 (st_eq c i arg1 harg1 arg2 harg2 arg3 harg3 arg4 harg4 x _ _ le_rfl)

set_option maxHeartbeats 1000000 in
/-- A point that is neither the first nor the last. -/
theorem run_mid (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : ¬ atFirst i) (hc1 : ¬ atLast i)
    (x : Vec F S1024x3584 .bf16) (a : Vec F S16x3584 .bf16) (E : Set ℕ) (K : PUnit → sProp 𝕄) :
    iprop(owns (c : Thread nD τ) arg1 fullShare x ∗ owns (c : Thread nD τ) arg4 fullShare a
        ∗ (iprop(owns (c : Thread nD τ) arg1 fullShare x ∗ owns (c : Thread nD τ) arg4 fullShare (folded x a)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%f3, %hf3, HS0⟩, Hk⟩
  obtain rfl := harg1.eq_unread hf0; obtain rfl := harg4.eq_unread hf3
  sl_exec (disch := first | sl_exact hc0 | sl_exact hc1)
  sl_step
  iapply Hk
  isplitl [H0]
  · iexists _; isplitr; · ipureintro; exact harg1.read_unread _
    iexact H0
  iexists _; isplitr; swap; · iexact HS0
  ipureintro
  rw [Cert.Own.read_store_whole _ _ _ _ _ (by decide), Cert.Own.readAt_whole harg4 _ _ (by decide)]
  exact congrArg k0_pay3 (st_eq c i arg1 harg1 arg2 harg2 arg3 harg3 arg4 harg4 x _ _ le_rfl)

set_option maxHeartbeats 1000000 in
/-- The last point. -/
theorem run_last (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : ¬ atFirst i) (hc1 : atLast i)
    (x : Vec F S1024x3584 .bf16) (a : Vec F S16x3584 .bf16) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare a
        ∗ (iprop(owns (c : Thread nD τ) arg1 fullShare x
            ∗ owns (c : Thread nD τ) arg2 fullShare (k0_pay5 (k0_pay7 (folded x a)) (k0_pay8 (folded x a)) 8388608#32)
            ∗ owns (c : Thread nD τ) arg3 fullShare (k0_pay6 (k0_pay7 (folded x a)) (k0_pay8 (folded x a)) 8388608#32)
            ∗ owns (c : Thread nD τ) arg4 fullShare (folded x a)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%d1, %f1, -, H1⟩, ⟨%d2, %f2, -, H2⟩, ⟨%f3, %hf3, HS0⟩, Hk⟩
  obtain rfl := harg1.eq_unread hf0; obtain rfl := harg4.eq_unread hf3
  sl_exec (disch := first | sl_exact hc0 | sl_exact hc1)
  have hv : run_last.sl.v12 c i arg1 harg1 arg2 harg2 arg3 harg3 arg4 harg4 x a = folded x a := by
    unfold run_last.sl.v12 run_last.sl.HS0_1
    rw [View.readCov_unit_lit _ _ _ (by decide), Cert.Own.readAt_whole harg4 _ _ (by decide)]
    exact congrArg k0_pay3 (st_eq c i arg1 harg1 arg2 harg2 arg3 harg3 arg4 harg4 x _ _ le_rfl)
  sl_step
  iapply Hk
  isplitl [H0]
  · iexists _; isplitr; · ipureintro; exact harg1.read_unread _
    iexact H0
  isplitl [H1]
  · iexists _; isplitr; swap; · iexact H1
    ipureintro
    rw [Cert.Own.read_store_whole _ _ _ _ _ (by decide)]
    unfold run_last.sl.r run_last.sl.r_1
    rw [hv]
  isplitl [H2]
  · iexists _; isplitr; swap; · iexact H2
    ipureintro
    rw [Cert.Own.read_store_whole _ _ _ _ _ (by decide)]
    unfold run_last.sl.r run_last.sl.r_1
    rw [hv]
  iexists _; isplitr; swap; · iexact HS0
  ipureintro
  unfold run_last.sl.HS0_1
  rw [Cert.Own.read_store_whole _ _ _ _ _ (by decide), Cert.Own.readAt_whole harg4 _ _ (by decide)]
  exact congrArg k0_pay3 (st_eq c i arg1 harg1 arg2 harg2 arg3 harg3 arg4 harg4 x _ _ le_rfl)

end Cert.Kernel.Own
end
-- ==== Proof.Kernel.AmaxRegion.lean ====
/-
  The first kernel region: what its scratch holds before each grid point (the running elementwise maximum of the
  blocks already seen), what its two results hold after the last point, and the pipeline library's body obligation.
-/
module

public import proofs.«01_k».proof.Proof.Kernel.AmaxRun

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: the first `n + 1` blocks folded into it, from zero. -/
def accAt (c : Dev nD) : (n : ℕ) → n < cfg0.N → Vec F S16x3584 .bf16
  | 0, h => folded (blk0 V c 0 ⟨0, h⟩) (k0_pay1 (F := F))
  | n + 1, h => folded (blk0 V c 0 ⟨n + 1, h⟩) (accAt c n (Nat.lt_of_succ_lt h))

theorem accAt_pos (c : Dev nD) (t : Fin cfg0.N) (hz : t.val ≠ 0) :
    accAt V c t.val t.isLt = folded (blk0 V c 0 t) (accAt V c (t.val - 1) (Nat.lt_of_le_of_lt (Nat.sub_le _ _) t.isLt)) := by
  obtain ⟨n, hn⟩ := t
  cases n with
  | zero => exact absurd rfl hz
  | succ n => rfl

/-- The scale the kernel makes of a folded scratch, -/
abbrev scaleOf (a : Vec F S16x3584 .bf16) : Vec F S8x128 .f32 := k0_pay5 (k0_pay7 a) (k0_pay8 a) 8388608#32
/-- and the reciprocal scale. -/
abbrev invOf (a : Vec F S16x3584 .bf16) : Vec F S8x128 .f32 := k0_pay6 (k0_pay7 a) (k0_pay8 a) 8388608#32

/-- The scratch buffer. -/
abbrev scM : Memref sig .tc .vmem S16x3584 .bf16 := Memref.whole cc0_scratch0

/-- The scoped buffers of the second kernel region, which this one does not touch, at anything. -/
def others (c : Dev nD) : sProp 𝕄 :=
  iprop((∃ f : Buf (Elt F) ((c : Thread nD τ).loc cc1_stg2_0), ((c : Thread nD τ).loc cc1_stg2_0) ↦{fullShare} f) ∗
      (∃ f : Buf (Elt F) ((c : Thread nD τ).loc cc1_stg2_1), ((c : Thread nD τ).loc cc1_stg2_1) ↦{fullShare} f) ∗
      (∃ f : Buf (Elt F) ((c : Thread nD τ).loc cc1_stg3_0), ((c : Thread nD τ).loc cc1_stg3_0) ↦{fullShare} f) ∗
      (∃ f : Buf (Elt F) ((c : Thread nD τ).loc cc1_stg4_0), ((c : Thread nD τ).loc cc1_stg4_0) ↦{fullShare} f) ∗
      (∃ f : Buf (Elt F) ((c : Thread nD τ).loc cc1_stg4_1), ((c : Thread nD τ).loc cc1_stg4_1) ↦{fullShare} f) ∗
      (∃ f : Buf (Elt F) ((c : Thread nD τ).loc cc1_stg5_0), ((c : Thread nD τ).loc cc1_stg5_0) ↦{fullShare} f) ∗
      (∃ f : Buf (Elt F) ((c : Thread nD τ).loc cc1_stg5_1), ((c : Thread nD τ).loc cc1_stg5_1) ↦{fullShare} f) ∗
      (∃ f : Buf (Elt F) ((c : Thread nD τ).loc cc1_stg0_0), ((c : Thread nD τ).loc cc1_stg0_0) ↦{fullShare} f) ∗
      (∃ f : Buf (Elt F) ((c : Thread nD τ).loc cc1_stg1_0), ((c : Thread nD τ).loc cc1_stg1_0) ↦{fullShare} f))

theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others c) := by
  rw [scopedRest0_eq]; simp only [scM, owns_whole]; rfl

/-- The invariant before point `n`. -/
def Phi0 (c : Dev nD) : (n : ℕ) → n ≤ cfg0.N → sProp 𝕄
  | 0, _ => iprop((∃ d, owns (c : Thread nD τ) scM fullShare d) ∗ others c)
  | n + 1, hn => iprop(owns (c : Thread nD τ) scM fullShare (accAt V c n hn) ∗ others c)

theorem Phi0_pos (c : Dev nD) (n : ℕ) (h : n ≤ cfg0.N) (hz : n ≠ 0) :
    Phi0 V c n h = iprop(owns (c : Thread nD τ) scM fullShare (accAt V c (n - 1) (by omega)) ∗ others c) := by
  cases n with
  | zero => exact absurd rfl hz
  | succ n => rfl

theorem Phi0_zero (c : Dev nD) (n : ℕ) (h : n ≤ cfg0.N) (hz : n = 0) :
    Phi0 V c n h = iprop((∃ d, owns (c : Thread nD τ) scM fullShare d) ∗ others c) := by
  subst hz; rfl

/-- The region's proof data at an entry valuation `V`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => scaleOf (accAt V c t.val t.isLt)
    | ⟨2, _⟩ => invOf (accAt V c t.val t.isLt)
  Φ t := Phi0 V c t.val (Nat.le_of_lt_succ t.isLt)
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = scaleOf (accAt V c t.val t.isLt) := by dsimp only [dat0]
theorem after0_2 (c : Dev nD) (t : Fin cfg0.N) : (dat0 V c).after 2 t = invOf (accAt V c t.val t.isLt) := by dsimp only [dat0]

/-- The input's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A0_eq]) t d).trans
    (by unfold Dat.fetched Dat.blockOf blk0; rw [A0_eq]; rfl)

theorem atFirst_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [atFirst, e0]
    word_cmp
   : ∀ t : Fin grid0.N, atFirst (grid0.coords t) ↔ t.val = 0)

theorem atLast_iff : ∀ t : Fin cfg0.N, atLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [atLast, k0_cond2, e0]
    word_cmp
   : ∀ t : Fin grid0.N, atLast (grid0.coords t) ↔ t.val = 15)

/-- Before the last point the two results are neither stored nor written back. -/
theorem idle0_1 : ∀ t : Fin cfg0.N, t.val ≠ 15 → cfg0.idle 1 (grid0.coords t) = true ∧ (cfg0.win 1).flush t = false := by decide +kernel
theorem idle0_2 : ∀ t : Fin cfg0.N, t.val ≠ 15 → cfg0.idle 2 (grid0.coords t) = true ∧ (cfg0.win 2).flush t = false := by decide +kernel
theorem live0_1 : ∀ t : Fin cfg0.N, t.val = 15 → cfg0.idle 1 (grid0.coords t) = false := by decide +kernel
theorem live0_2 : ∀ t : Fin cfg0.N, t.val = 15 → cfg0.idle 2 (grid0.coords t) = false := by decide +kernel

/-- The staging buffers at a point. -/
abbrev ms0_0 (t : Fin cfg0.N) : Memref sig .tc .vmem S1024x3584 .bf16 := win0_0.stage (cfg0.slots t 0)
abbrev ms0_1 (t : Fin cfg0.N) : Memref sig .tc .vmem S8x128 .f32 := win0_1.stage (cfg0.slots t 1)
abbrev ms0_2 (t : Fin cfg0.N) : Memref sig .tc .vmem S8x128 .f32 := win0_2.stage (cfg0.slots t 2)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = iprop(owns (c : Thread nD τ) scM fullShare (accAt V c t.val t.isLt) ∗ others c) from rfl]
  rw [show (dat0 V c).Φ t.castSucc = Phi0 V c t.val (Nat.le_of_lt t.isLt) from by
    dsimp only [dat0]; exact Pipeline.Dat.Φ_castSucc (Phi0 V c) t]
  rw [show (dat0 V c).leavesExact 0 t = owns (c : Thread nD τ) (ms0_0 t) fullShare ((dat0 V c).after 0 t) from by
    unfold Dat.leavesExact; rw [show cfg0.idle 0 (grid0.coords t) = false from rfl], after0_0]
  by_cases h1 : t.val = 15
  · have h0 : t.val ≠ 0 := by omega
    rw [show (dat0 V c).leavesExact 1 t = owns (c : Thread nD τ) (ms0_1 t) fullShare ((dat0 V c).after 1 t) from by
      unfold Dat.leavesExact; rw [live0_1 t h1], after0_1]
    rw [show (dat0 V c).leavesExact 2 t = owns (c : Thread nD τ) (ms0_2 t) fullShare ((dat0 V c).after 2 t) from by
      unfold Dat.leavesExact; rw [live0_2 t h1], after0_2]
    rw [Phi0_pos V c _ _ h0, accAt_pos V c t h0]
    iintro ⟨⟨HS0, Hg⟩, Ho, ⟨%d0, H0⟩, ⟨%d1, H1⟩, ⟨%d2, H2⟩⟩
    iapply (run_last c (grid0.coords t) _ _ _ _ _ _ _ _ (fun h => h0 ((atFirst_iff t).mp h)) ((atLast_iff t).mpr h1) (blk0 V c 0 t) _ Set.univ _)
    isplitl [H0]; · iexact H0
    isplitl [H1]; · iexists _; iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2
  · rw [Dat.leavesExact_idle (dat0 V c) 1 t (idle0_1 t h1).1 (idle0_1 t h1).2,
      Dat.leavesExact_idle (dat0 V c) 2 t (idle0_2 t h1).1 (idle0_2 t h1).2]
    by_cases h0 : t.val = 0
    · rw [Phi0_zero V c _ _ h0]
      rw [show accAt V c t.val t.isLt = folded (blk0 V c 0 t) (k0_pay1 (F := F)) from by
        obtain ⟨n, hn⟩ := t; obtain rfl : n = 0 := h0; rfl]
      iintro ⟨⟨HS0, Hg⟩, Ho, ⟨%d0, H0⟩, ⟨%d1, H1⟩, ⟨%d2, H2⟩⟩
      iapply (run_first c (grid0.coords t) _ _ _ _ _ _ _ _ ((atFirst_iff t).mpr h0) (fun h => h1 ((atLast_iff t).mp h)) (blk0 V c 0 t) Set.univ _)
      isplitl [H0]; · iexact H0
      isplitl [HS0]; · iexact HS0
      iintro ⟨H0, HS0⟩
      isplitl [HS0 Hg]
      · isplitl [HS0]; · iexact HS0
        iexact Hg
      isplitl [Ho]; · iexact Ho
      isplitl [H0]; · iexact H0
      isplitl [H1]; · iexists _; iexact H1
      iexists _; iexact H2
    · rw [Phi0_pos V c _ _ h0, accAt_pos V c t h0]
      iintro ⟨⟨HS0, Hg⟩, Ho, ⟨%d0, H0⟩, ⟨%d1, H1⟩, ⟨%d2, H2⟩⟩
      iapply (run_mid c (grid0.coords t) _ _ _ _ _ _ _ _ (fun h => h0 ((atFirst_iff t).mp h)) (fun h => h1 ((atLast_iff t).mp h)) (blk0 V c 0 t) _ Set.univ _)
      isplitl [H0]; · iexact H0
      isplitl [HS0]; · iexact HS0
      iintro ⟨H0, HS0⟩
      isplitl [HS0 Hg]
      · isplitl [HS0]; · iexact HS0
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

/-- The scoped buffers no window stages give the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [scopedRest_split, show (dat0 V c).Φ 0 = Phi0 V c 0 (Nat.zero_le _) from rfl, Phi0_zero V c 0 _ rfl]

/-- and the invariant after the last point gives them back. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [scopedRest_split, show (dat0 V c).Φ (Fin.last cfg0.N) = Phi0 V c cfg0.N le_rfl from rfl,
    Phi0_pos V c _ _ (by rw [show cfg0.N = 16 from N_0]; decide)]
  iintro ⟨HS0, Hg⟩
  isplitl [HS0]; · iexists _; iexact HS0
  iexact Hg

end Cert.Kernel.Own
end
-- ==== Proof.Kernel.LinearRun.lean ====
/-
  The second kernel function, `cc1_linear`, run once over symbolic contents: the first column block of a row block
  quantises the row block and keeps its codes; every column block multiplies the codes by its 1024 columns.
-/
module

public import proofs.«01_k».proof.Proof.Gen.Kernel.Skeleton
public import proofs.«01_k».proof.Proof.Gen.Kernel.Loops
public import proofs.«01_k».proof.Proof.Gen.Kernel.Points
public import proofs.«01_k».proof.Proof.Gen.Kernel.Launch
public import Idealize.ShloMosaic.Lib.Pipeline.Value
public import Idealize.ShloMosaic.Lib.Pipeline.ValueKit
public import Idealize.ShloMosaic.Lib.Pipeline.FrameBody
public import proofs.«01_k».proof.Proof.Common
public import Idealize.ShloMosaic.Lib.Exec
public import Idealize.ShloMosaic.Lib.Tactic
public import Idealize.ShloMosaic.Lib.Pipeline.Kit
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first column block of its row block. -/
abbrev atFresh (i : grid1.Coords) : Prop := k1_cond1 i = 1#1

/-- The 1024 columns of the second operand the point takes. -/
abbrev cols (w : Vec F S3584x14336 .fp8e4m3) (i : grid1.Coords) : Vec F S3584x1024 .fp8e4m3 :=
  View.ld w (Rect.unit (s := S3584x14336) (k1_off1 i) S3584x1024.size (k1_off1_inb i))

/-- The one element of a 1×1 buffer. -/
abbrev one (x : Vec F S1x1 .f32) : Elt F .f32 := x (Shape.Idx.first (numel1_S1x1.symm ▸ Nat.one_pos))

set_option maxHeartbeats 1000000 in
/-- The first column block of a row block. -/
theorem run_fresh (c : Dev nD) (i : grid1.Coords) (arg2 : Memref sig .tc .smem S1x1 .f32) (harg2 : arg2.IsWhole)
    (arg3 : Memref sig .tc .smem S1x1 .f32) (harg3 : arg3.IsWhole) (arg4 : Memref sig .tc .vmem S256x3584 .bf16) (harg4 : arg4.IsWhole)
    (arg5 : Memref sig .tc .vmem S3584x14336 .fp8e4m3) (harg5 : arg5.IsWhole) (arg6 : Memref sig .tc .vmem S256x1024 .bf16) (harg6 : arg6.IsWhole)
    (arg7 : Memref sig .tc .vmem S256x3584 .fp8e4m3) (harg7 : arg7.IsWhole) (hc0 : atFresh i)
    (x0 : Vec F S1x1 .f32) (x1 : Vec F S1x1 .f32) (x2 : Vec F S256x3584 .bf16) (x3 : Vec F S3584x14336 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay2 (cols x3 i) (k1_pay1 (one x1) x2) (one x0))
            ∗ owns (c : Thread nD τ) arg7 fullShare (k1_pay1 (one x1) x2)) -∗ K ⟨⟩))
      ⊢ wp frame (wpE (defs₀ (F := F)) Variants.none c none) E (cc1_linear i arg2 harg2 arg3 harg3 arg4 harg4 arg5 harg5 arg6 harg6 arg7 harg7) K := by
  simp only [cc1_linear_eq_skeleton]; unfold cc1_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [Cert.Own.read_store_whole _ _ _ _ _ (by decide)]
    unfold run_fresh.sl.v7 run_fresh.sl.r_1 run_fresh.sl.H5_1
    rw [View.readCov_unit_lit _ _ _ (by decide)]
    unfold run_fresh.sl.r
    rw [Cert.Own.readAt_whole harg2 _ _ (by decide), Cert.Own.readAt_whole harg3 _ _ (by decide), Cert.Own.readAt_whole harg4 _ _ (by decide)]
    rw [show View.readAt (Elt F) arg5.view (Rect.unit (s := S3584x14336) (k1_off1 i) S3584x1024.size (k1_off1_inb i)).toLoadRect (harg5.unread x3) = cols x3 i from
      funext fun y => congrFun (harg5.read_unread x3) _]
  iexists _; isplitr; swap; · iexact H5
  ipureintro
  unfold run_fresh.sl.H5_1
  rw [Cert.Own.read_store_whole _ _ _ _ _ (by decide)]
  unfold run_fresh.sl.r
  rw [Cert.Own.readAt_whole harg3 _ _ (by decide), Cert.Own.readAt_whole harg4 _ _ (by decide)]

set_option maxHeartbeats 1000000 in
/-- Every other column block. -/
theorem run_kept (c : Dev nD) (i : grid1.Coords) (arg2 : Memref sig .tc .smem S1x1 .f32) (harg2 : arg2.IsWhole)
    (arg3 : Memref sig .tc .smem S1x1 .f32) (harg3 : arg3.IsWhole) (arg4 : Memref sig .tc .vmem S256x3584 .bf16) (harg4 : arg4.IsWhole)
    (arg5 : Memref sig .tc .vmem S3584x14336 .fp8e4m3) (harg5 : arg5.IsWhole) (arg6 : Memref sig .tc .vmem S256x1024 .bf16) (harg6 : arg6.IsWhole)
    (arg7 : Memref sig .tc .vmem S256x3584 .fp8e4m3) (harg7 : arg7.IsWhole) (hc0 : ¬ atFresh i)
    (x0 : Vec F S1x1 .f32) (x3 : Vec F S3584x14336 .fp8e4m3) (x5 : Vec F S256x3584 .fp8e4m3)
    (E : Set ℕ) (K : PUnit → sProp 𝕄) :
    iprop(owns (c : Thread nD τ) arg2 fullShare x0
        ∗ owns (c : Thread nD τ) arg5 fullShare x3 ∗ (∃ d, owns (c : Thread nD τ) arg6 fullShare d) ∗ owns (c : Thread nD τ) arg7 fullShare x5
        ∗ (iprop(owns (c : Thread nD τ) arg2 fullShare x0
            ∗ owns (c : Thread nD τ) arg5 fullShare x3
            ∗ owns (c : Thread nD τ) arg6 fullShare (k1_pay2 (cols x3 i) x5 (one x0))
            ∗ owns (c : Thread nD τ) arg7 fullShare x5) -∗ K ⟨⟩))
      ⊢ wp frame (wpE (defs₀ (F := F)) Variants.none c none) E (cc1_linear i arg2 harg2 arg3 harg3 arg4 harg4 arg5 harg5 arg6 harg6 arg7 harg7) K := by
  simp only [cc1_linear_eq_skeleton]; unfold cc1_linear_skel
  unfold owns
  iintro ⟨⟨%f0, %hf0, H0⟩, ⟨%f3, %hf3, H3⟩, ⟨%d4, %f4, -, H4⟩, ⟨%f5, %hf5, H5⟩, Hk⟩
  obtain rfl := harg2.eq_unread hf0; obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H3]
  · iexists _; isplitr; · ipureintro; exact harg5.read_unread _
    iexact H3
  isplitl [H4]
  · iexists _; isplitr; swap; · iexact H4
    ipureintro
    rw [Cert.Own.read_store_whole _ _ _ _ _ (by decide)]
    unfold run_kept.sl.r
    rw [Cert.Own.readAt_whole harg2 _ _ (by decide), Cert.Own.readAt_whole harg7 _ _ (by decide)]
    rw [show View.readAt (Elt F) arg5.view (Rect.unit (s := S3584x14336) (k1_off1 i) S3584x1024.size (k1_off1_inb i)).toLoadRect (harg5.unread x3) = cols x3 i from
      funext fun y => congrFun (harg5.read_unread x3) _]
  iexists _; isplitr; swap; · iexact H5
  ipureintro
  exact harg7.read_unread _

end Cert.Kernel.Own
end
-- ==== Proof.Kernel.LinearRegion.lean ====
/-
  The second kernel region: the codes of a row block, made at the first of its fourteen points and carried through
  the other thirteen, the tile of the product each point leaves, and the pipeline library's body obligation.
-/
module

public import proofs.«01_k».proof.Proof.Kernel.LinearRun
public import Idealize.ShloMosaic.Lib.Pipeline.TableIdle

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the row block of point `t`. -/
abbrev rowStart (t : Fin cfg1.N) : Fin cfg1.N := ⟨14 * (t.val / 14), Nat.lt_of_le_of_lt (Nat.mul_div_le _ _) t.isLt⟩

/-- The codes of the row block of point `t`. -/
def codesAt (c : Dev nD) (t : Fin cfg1.N) : Vec F S256x3584 .fp8e4m3 :=
  k1_pay1 (one (blk1 V c 1 (rowStart t))) (blk1 V c 2 (rowStart t))

/-- The tile of the product at point `t`. -/
def tileAt (c : Dev nD) (t : Fin cfg1.N) : Vec F S256x1024 .bf16 :=
  k1_pay2 (cols (blk1 V c 3 t) (grid1.coords t)) (codesAt V c t) (one (blk1 V c 0 t))

/-- The region's proof data at an entry valuation `V`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => tileAt V c t
    | ⟨5, _⟩ => codesAt V c t
  Φ _ := (Pipeline.scopedRest (Ix := Unit) (Name := ℕ) (U := UR sig nD τ) (Lvl := ℕ) (Val := Elt F) spec1 c : sProp 𝕄)
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = tileAt V c t := by dsimp only [dat1]
theorem after1_5 (c : Dev nD) (t : Fin cfg1.N) : (dat1 V c).after 5 t = codesAt V c t := by dsimp only [dat1]

/-- Each input's staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A1_eq]) t d).trans
    (by unfold Dat.fetched Dat.blockOf blk1; rw [A1_eq]; rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A1_eq]) t d).trans
    (by unfold Dat.fetched Dat.blockOf blk1; rw [A1_eq]; rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A1_eq]) t d).trans
    (by unfold Dat.fetched Dat.blockOf blk1; rw [A1_eq]; rfl)
theorem before1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [A1_eq]) t d).trans
    (by unfold Dat.fetched Dat.blockOf blk1; rw [A1_eq]; rfl)

theorem atFresh_iff : ∀ t : Fin cfg1.N, atFresh (grid1.coords t) ↔ t.val % 14 = 0 :=
  (fun t => by
    have ht : t.val < 896 := Nat.lt_of_lt_of_eq t.isLt N_1
    have e0 : (grid1.coords t 0).val = t.val / 14 % 64 := Pipeline.Grid.coords_val t 0 (by decide) rfl
    have e1 : (grid1.coords t 1).val = t.val / 1 % 14 := Pipeline.Grid.coords_val t 1 (by decide) rfl
    simp only [atFresh, k1_cond1, e0, e1]
    word_cmp
   : ∀ t : Fin grid1.N, atFresh (grid1.coords t) ↔ t.val % 14 = 0)

theorem idle1_5 (t : Fin cfg1.N) : cfg1.idle 5 (grid1.coords t) = true ↔ t.val % 14 ≠ 0 := by
  have h : cfg1.idle 5 (grid1.coords t) = !(k1_cond1 (grid1.coords t) == 1#1) := rfl
  rw [h, Bool.not_eq_true', beq_eq_false_iff_ne]
  exact not_congr (atFresh_iff t)

theorem flush1_5_false (t : Fin cfg1.N) (h : t.val % 14 ≠ 13) : (cfg1.win 5).flush t = false :=
  Bool.eq_false_iff.mpr fun hf => h ((flush1_5 t).mp hf)

/-- The codes' buffer holds nothing stored exactly where a row block begins. -/
theorem fresh1_5 : ∀ n, n < cfg1.N → (cfg1.fresh 5 n = true ↔ n % 14 = 0)
  | 0, _ => by simp [Cfg.fresh_zero]
  | n + 1, h => by
    have hn : n < cfg1.N := Nat.lt_of_succ_lt h
    rw [Cfg.fresh_succ cfg1 5 n hn, Bool.or_eq_true, Bool.and_eq_true, flush1_5, fresh1_5 n hn,
      show cfg1.grid.coords ⟨n, hn⟩ = grid1.coords ⟨n, hn⟩ from rfl, idle1_5 ⟨n, hn⟩]
    dsimp only
    omega

theorem codesAt_carry (c : Dev nD) (t : Fin cfg1.N) (h : t.val % 14 ≠ 0) :
    codesAt V c t = codesAt V c ⟨t.val - 1, by omega⟩ := by
  unfold codesAt
  rw [show rowStart t = rowStart ⟨t.val - 1, by omega⟩ from Fin.ext (by show 14 * (t.val / 14) = 14 * ((t.val - 1) / 14); omega)]

/-- Past the first point of a row block the codes' buffer holds the row block's codes. -/
theorem before1_5 (c : Dev nD) (t : Fin cfg1.N) (h : t.val % 14 ≠ 0) (d) : (dat1 V c).before 5 t d = codesAt V c t := by
  rw [(dat1 V c).before_out_traj 5 rfl (fun _ _ => rfl)
    (fun t _ hi _ => by rw [after1_5, after1_5]; exact codesAt_carry V c t ((idle1_5 t).mp hi)) t.val t rfl d,
    if_neg fun hf => h ((fresh1_5 t.val t.isLt).mp hf), after1_5]
  exact (codesAt_carry V c t h).symm

/-- The staging buffers at a point. -/
abbrev ms1_0 (t : Fin cfg1.N) : Memref sig .tc .smem S1x1 .f32 := win1_0.stage (cfg1.slots t 0)
abbrev ms1_1 (t : Fin cfg1.N) : Memref sig .tc .smem S1x1 .f32 := win1_1.stage (cfg1.slots t 1)
abbrev ms1_2 (t : Fin cfg1.N) : Memref sig .tc .vmem S256x3584 .bf16 := win1_2.stage (cfg1.slots t 2)
abbrev ms1_3 (t : Fin cfg1.N) : Memref sig .tc .vmem S3584x14336 .fp8e4m3 := win1_3.stage (cfg1.slots t 3)
abbrev ms1_4 (t : Fin cfg1.N) : Memref sig .tc .vmem S256x1024 .bf16 := win1_4.stage (cfg1.slots t 4)
abbrev ms1_5 (t : Fin cfg1.N) : Memref sig .tc .vmem S256x3584 .fp8e4m3 := win1_5.stage (cfg1.slots t 5)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_5_fresh (c : Dev nD) (t : Fin cfg1.N) (h : t.val % 14 = 0) :
    (dat1 V c).leavesExact 5 t = owns (c : Thread nD τ) (ms1_5 t) fullShare (codesAt V c t) := by
  unfold Dat.leavesExact
  rw [Bool.eq_false_iff.mpr fun hi => (idle1_5 t).mp hi h, after1_5]

/-- Kept codes are what the point owes the next one, and what the last point of the row block writes back. -/
theorem leaves1_5_kept (c : Dev nD) (t : Fin cfg1.N) (h : t.val % 14 ≠ 0) :
    owns (c : Thread nD τ) (ms1_5 t) fullShare (codesAt V c t) ⊢ ((dat1 V c).leavesExact 5 t : sProp 𝕄) := by
  by_cases hf : t.val % 14 = 13
  · unfold Dat.leavesExact
    rw [(idle1_5 t).mpr h, (flush1_5 t).mpr hf, after1_5]
  · rw [Dat.leavesExact_idle (dat1 V c) 5 t ((idle1_5 t).mpr h) (flush1_5_false t hf)]
    simp only [before1_5 V c t h]
    iintro H
    iexists (codesAt V c t)
    iexact H

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = (dat1 V c).Φ t.castSucc from rfl]
  rw [show (dat1 V c).leavesExact 0 t = owns (c : Thread nD τ) (ms1_0 t) fullShare ((dat1 V c).after 0 t) from by
    unfold Dat.leavesExact; rw [show cfg1.idle 0 (grid1.coords t) = false from rfl], after1_0]
  rw [show (dat1 V c).leavesExact 1 t = owns (c : Thread nD τ) (ms1_1 t) fullShare ((dat1 V c).after 1 t) from by
    unfold Dat.leavesExact; rw [show cfg1.idle 1 (grid1.coords t) = false from rfl], after1_1]
  rw [show (dat1 V c).leavesExact 2 t = owns (c : Thread nD τ) (ms1_2 t) fullShare ((dat1 V c).after 2 t) from by
    unfold Dat.leavesExact; rw [show cfg1.idle 2 (grid1.coords t) = false from rfl], after1_2]
  rw [show (dat1 V c).leavesExact 3 t = owns (c : Thread nD τ) (ms1_3 t) fullShare ((dat1 V c).after 3 t) from by
    unfold Dat.leavesExact; rw [show cfg1.idle 3 (grid1.coords t) = false from rfl], after1_3]
  rw [show (dat1 V c).leavesExact 4 t = owns (c : Thread nD τ) (ms1_4 t) fullShare ((dat1 V c).after 4 t) from by
    unfold Dat.leavesExact; rw [show cfg1.idle 4 (grid1.coords t) = false from rfl], after1_4]
  by_cases h : t.val % 14 = 0
  · rw [leaves1_5_fresh V c t h]
    have ht : rowStart t = t := Fin.ext (by show 14 * (t.val / 14) = t.val; omega)
    have hc : codesAt V c t = k1_pay1 (one (blk1 V c 1 t)) (blk1 V c 2 t) := by unfold codesAt; rw [ht]
    unfold tileAt
    rw [hc]
    iintro ⟨Hg, Ho, ⟨%d0, H0⟩, ⟨%d1, H1⟩, ⟨%d2, H2⟩, ⟨%d3, H3⟩, ⟨%d4, H4⟩, ⟨%d5, H5⟩⟩
    iapply (run_fresh c (grid1.coords t) _ _ _ _ _ _ _ _ _ _ _ _ ((atFresh_iff t).mpr h) (blk1 V c 0 t) (blk1 V c 1 t) (blk1 V c 2 t) (blk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before1_5 V c t h]
    unfold tileAt
    have hk := leaves1_5_kept V c t h
    iintro ⟨Hg, Ho, ⟨%d0, H0⟩, ⟨%d1, H1⟩, ⟨%d2, H2⟩, ⟨%d3, H3⟩, ⟨%d4, H4⟩, ⟨%d5, H5⟩⟩
    iapply (run_kept c (grid1.coords t) _ _ _ _ _ _ _ _ _ _ _ _ (fun hf => h ((atFresh_iff t).mp hf)) (blk1 V c 0 t) (blk1 V c 3 t) (codesAt V c t) Set.univ _)
    isplitl [H0]; · iexact H0
    isplitl [H3]; · iexact H3
    isplitl [H4]; · iexists _; iexact H4
    isplitl [H5]; · iexact H5
    iintro ⟨H0, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iapply hk; iexact H5

/-- The library's body obligation, at every point. -/
theorem body_obligation1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

/-- The invariant is the scoped buffers no window stages: it is what the region is entered with, -/
theorem hin1 (c : Dev nD) :
    (Pipeline.scopedRest (Ix := Unit) (Name := ℕ) (U := UR sig nD τ) (Lvl := ℕ) (Val := Elt F) spec1 c : sProp 𝕄) ⊢ (dat1 V c).Φ 0 := by
  dsimp only [dat1]; exact .rfl

/-- and what it is left with. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  dsimp only [dat1]; exact .rfl

end Cert.Kernel.Own
end
-- ==== Proof.Segment.lean ====
/-
  One kernel region between two host stretches: from the body's obligation, a segment that is entered from a set of
  buffers held at a valuation and left with them held at what the region leaves, the core owing nothing throughout.
-/
module

public import Idealize.ShloMosaic.Lib.Pipeline.RegionArraysS
public import Idealize.ShloMosaic.Lib.Pipeline.Regions

@[expose] public section

noncomputable section

namespace Cert.Own

open Idealize.ShloMosaic Idealize.ShloMosaic.TcCoe
open Idealize.SL Idealize.SL.RA
open Idealize.SL.BI (sProp)
open scoped Idealize.SL.BI
open Idealize.SL.BI.BIBase Idealize.SL.BI.Laws Idealize.SL.Sem Idealize.SL.ProofMode
open Idealize.ShloMosaic.Pipeline
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- What rides along beside the buffers: the core owes nothing. -/
abbrev rest (c : Dev nD) : sProp 𝕄 :=
  iprop((∃ Wd, owes (c : Thread nD τ) (0 : CellTallies nD τ sig Ix) Wd) ∗ emp ∗ emp)

theorem exists_segment {Λ₀ : Idealize.SL.Sem.Labels} {P : Type} [Fintype P]
    (pcs : P → PCfg sig Λ₀ Val) (a : (p : P) → (pcs p).Adm)
    (pdats : (p : P) → (c : Dev nD) → Dat τ Val Ix Name U Lvl (pin pcs a p) c) (ι : Ix)
    (defs₀ : Defs nD τ sig Val Λ₀) (𝒱₀ : Variants)
    (L : GSem nD τ sig → Finset Ix) (lv : GSem nD τ sig → Ix → Lvl) (p : P)
    (S : Finset (DevRef τ sig)) (hS : arrRefs (pcs p).spec ⊆ S)
    (kit : PLaunchFacts (nD := nD) (τ := τ) pcs p) (hK : (pcs p).pre.K = 0)
    (D : Dev nD → CellTallies nD τ sig Ix) (X Y Z : Dev nD → sProp 𝕄)
    (hbody : ∀ c, BodyObligationLoose (pdats p c) defs₀ 𝒱₀ ι Set.univ)
    (howed : ∀ c t, (pdats p c).owed t = D c) (hrec : ∀ c, (pdats p c).recorded 0 = Set.univ)
    (hshare : ∀ c w, (pdats p c).share w = fullShare)
    (hin : ∀ c, iprop(scopedRest (pin pcs a p).spec c ∗ X c) ⊢ (pdats p c).Φ 0)
    (hout : ∀ c, (pdats p c).Φ (Fin.last (pin pcs a p).N) ⊢ iprop(scopedRest (pin pcs a p).spec c ∗ Y c))
    (b : Dev nD → Lvl) (hcut : LevelCut pcs a ι L lv p D b)
    (W : Dev nD → Valuation τ sig Val)
    (hW : ∀ c w, (pdats p c).arrAt w 0 = W c (Proc.devRef .tc (arrRef (pin pcs a p).spec w))) :
    ∃ R : RegionSeg pcs a pdats ι defs₀ 𝒱₀ L lv p,
      (∀ c, iprop(StableHlo.held (c.tc : Thread nD τ) S (W c) ∗ ((∃ Wd, owes (c : Thread nD τ) (D c) Wd) ∗ X c ∗ Z c)) ⊢ R.pre c)
      ∧ (∀ c, R.post c ⊢ iprop(StableHlo.held (c.tc : Thread nD τ) S (afterRegion (pdats p c) (W c)) ∗ ((∃ Wd, owes (c : Thread nD τ) (D c) Wd) ∗ Y c ∗ Z c))) := by
  refine ⟨RegionSeg.ofHeldIn pcs a pdats ι defs₀ 𝒱₀ L lv p D S X Y kit hK hbody howed hrec hshare hin hout b hcut Z W hW, ?_, ?_⟩
  · intro c
    exact RegionSeg.ofHeldIn_pre hS c
  · intro c
    exact RegionSeg.ofHeldIn_post hS c

end Cert.Own
-- ==== Proof.Kernel.Whole.lean ====
/-
  The whole program: @main as its host stretches and two kernel regions, run in order over the contents of the
  buffers that outlive a region.
-/
module

public import proofs.«01_k».proof.Proof.Kernel.AmaxRegion
public import proofs.«01_k».proof.Proof.Kernel.LinearRegion
public import proofs.«01_k».proof.Proof.Gen.Kernel.Regions
public import proofs.«01_k».proof.Proof.Segment

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- A valuation read at the TensorCore's references. -/
abbrev atRefs (W : Dev nD → Valuation τ sig (Elt F)) (c : Dev nD) (b : Ref sig .tc) : Buf (Elt F) ((c : Thread nD τ).loc b) :=
  W c (Proc.devRef .tc b)

/-- At launch; -/
abbrev W0 (c : Dev nD) : Valuation τ sig (Elt F) := fun b => m (c, b)
/-- after the reshape of the activations, as the first region is entered; -/
abbrev W1 (c : Dev nD) : Valuation τ sig (Elt F) := StableHlo.after hostOps0 (W0 m c)
/-- after the first region; -/
abbrev W2 (c : Dev nD) : Valuation τ sig (Elt F) := Pipeline.afterRegion (dat0 (atRefs (W1 m)) c) (W1 m c)
/-- after the scalars are cut out, as the second region is entered; -/
abbrev W3 (c : Dev nD) : Valuation τ sig (Elt F) := StableHlo.after hostOps1 (W2 m c)
/-- after the second region; -/
abbrev W4 (c : Dev nD) : Valuation τ sig (Elt F) := Pipeline.afterRegion (dat1 (atRefs (W3 m)) c) (W3 m c)
/-- at the end. -/
abbrev W5 (c : Dev nD) : Valuation τ sig (Elt F) := StableHlo.after hostOps2 (W4 m c)

/-! ## The items as segments -/

/-- Every TensorCore semaphore has a level, the lowest. -/
abbrev Lv : GSem nD τ sig → Finset Unit := fun g => if g.1.2 = .tc then Finset.univ else ∅
abbrev lv : GSem nD τ sig → Unit → ℕ := fun _ _ => 0

/-- The two regions' proof data. -/
abbrev pdats : (p : Fin 2) → (c : Dev nD) → Dat τ (Elt F) Unit ℕ (UR sig nD τ) ℕ (cfgs p) c
  | 0 => fun c => dat0 (atRefs (W1 m)) c
  | 1 => fun c => dat1 (atRefs (W3 m)) c

theorem levels (p : Fin 2) : Pipeline.LevelCut (pcfgs (F := F)) adm () (Lv) lv p (fun _ : Dev nD => (0 : CellTallies nD τ sig Unit)) (fun _ => 0) where
  hι _ _ _ := by simp [Lv]
  hιb _ _ _ := le_rfl
  hD _ _ _ h := absurd h (lt_irrefl 0)

def host0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Cert.Own.rest
def host1 : HostSeg (Ix := Unit) (Name := ℕ) (U := UR sig nD τ) (Lvl := ℕ) (pcfgs (F := F)) defs₀ Variants.none Lv lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Cert.Own.rest
def host2 : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Cert.Own.rest

set_option backward.isDefEq.respectTransparency.types false in
/-- The first region's segment. -/
theorem region0 : ∃ R : RegionSeg (pcfgs (F := F)) adm (pdats m) () defs₀ Variants.none Lv lv 0,
    (∀ c : Dev nD, iprop(StableHlo.held (c : Thread nD τ) (Pipeline.ucRefs τ sig) (W1 m c) ∗ Cert.Own.rest c) ⊢ R.pre c)
    ∧ ∀ c : Dev nD, R.post c ⊢ iprop(StableHlo.held (c : Thread nD τ) (Pipeline.ucRefs τ sig) (W2 m c) ∗ Cert.Own.rest c) :=
  Cert.Own.exists_segment (pcfgs (F := F)) adm (pdats m) () defs₀ Variants.none Lv lv 0 (Pipeline.ucRefs τ sig)
    (Pipeline.arrRefs_sub_ucRefs _ fun w => launch0.win.arr_unscoped w)
    launch0.toP rfl (fun _ => 0) (fun _ => iprop(emp)) (fun _ => iprop(emp)) (fun _ => iprop(emp)) (fun c => (body_obligation0 (atRefs (W1 m)) c).loose) (fun _ _ => rfl) (fun _ => rfl)
    (fun c => (pdats m 0 c).share_full fun _ => rfl)
    (fun c => by iintro ⟨H, -⟩; iapply (hin0 (atRefs (W1 m)) c); iexact H)
    (fun c => by
      refine (hout0 (atRefs (W1 m)) c).trans ?_
      iintro H; isplitl [H]; · iexact H
      iempintro)
    (fun _ => 0) (levels 0) (W1 m) (fun c w => A0_eq (atRefs (W1 m)) c w)

set_option backward.isDefEq.respectTransparency.types false in
/-- The second region's segment. -/
theorem region1 : ∃ R : RegionSeg (pcfgs (F := F)) adm (pdats m) () defs₀ Variants.none Lv lv 1,
    (∀ c : Dev nD, iprop(StableHlo.held (c : Thread nD τ) (Pipeline.ucRefs τ sig) (W3 m c) ∗ Cert.Own.rest c) ⊢ R.pre c)
    ∧ ∀ c : Dev nD, R.post c ⊢ iprop(StableHlo.held (c : Thread nD τ) (Pipeline.ucRefs τ sig) (W4 m c) ∗ Cert.Own.rest c) :=
  Cert.Own.exists_segment (pcfgs (F := F)) adm (pdats m) () defs₀ Variants.none Lv lv 1 (Pipeline.ucRefs τ sig)
    (Pipeline.arrRefs_sub_ucRefs _ fun w => launch1.win.arr_unscoped w)
    launch1.toP rfl (fun _ => 0) (fun _ => iprop(emp)) (fun _ => iprop(emp)) (fun _ => iprop(emp)) (fun c => (body_obligation1 (atRefs (W3 m)) c).loose) (fun _ _ => rfl) (fun _ => rfl)
    (fun c => (pdats m 1 c).share_full fun _ => rfl)
    (fun c => by iintro ⟨H, -⟩; iapply (hin1 (atRefs (W3 m)) c); iexact H)
    (fun c => by
      refine (hout1 (atRefs (W3 m)) c).trans ?_
      iintro H; isplitl [H]; · iexact H
      iempintro)
    (fun _ => 0) (levels 1) (W3 m) (fun c w => A1_eq (atRefs (W3 m)) c w)

/-- The launch's share of the pipelines' state. -/
abbrev launchTok : UR sig nD τ := initOf (Pipeline.cells cfgs cellOf_inj) (Pipeline.launchToks cfgs cellOf_inj)

set_option backward.isDefEq.respectTransparency.types false in
/-- Every weakly fair execution of @main terminates with every buffer that outlives the regions at its last contents
    and every counter at zero. -/
theorem run_main :
    θ_run defs (onTc (τ := τ) (main (F := F))) ⟨m, fun _ => 0, ρ⟩ (fun r => (∀ c : Dev nD, ∀ b ∈ Pipeline.ucRefs τ sig,
      r.2.mem ((c.tc : Thread nD τ).1, b) = W5 m c b) ∧ r.2.sem = fun _ => 0) := by
  obtain ⟨R0, pre0, post0⟩ := region0 m
  obtain ⟨R1, pre1, post1⟩ := region1 m
  let segsW : Dev nD → List (Seg (pcfgs (F := F)) adm (pdats m) () defs₀ Variants.none Lv lv) := fun _ =>
    [.host (host0 m), .region R0, .host (host1 m), .region R1, .host (host2 m)]
  refine Pipeline.θ_run_regions_kit_dev_sems (pcfgs (F := F)) adm (pdats m) () cellOf_inj emb₁ defs₀ Variants.none Lv lv m ρ main
    segsW
    (fun c Q => by
      rewrite [main_chain c, Seg.run_eq_chain,
        show (segsW c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segsW, Seg.pipes_host, Seg.pipes_region, Seg.pipes_nil]; decide) (fun _ => 0)
    (fun g hg => by simp only [Lv, if_neg hg]) (fun _ => iprop(emp)) launchTok
    (by
      iintro Hu
      imodintro
      isplitl [Hu]
      · iapply (show (ownU launchTok : sProp 𝕄) ⊢ BI.own (emb₁ launchTok) from by rw [ownU_emb₁])
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Cert.Own.rest c))
    (Tₙ := fun c => StableHlo.held (c : Thread nD τ) (Pipeline.ucRefs τ sig) (W5 m c))
    (hch := fun c => ⟨.rfl,
      pre0 c, post0 c, pre1 c, post1 c,
      sep_mono .rfl (by iintro ⟨H, -⟩; iexact H)⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · refine Pipeline.initEach Lv lv fun c => ?_
    rw [show unscopedBufs c (fun b => m ((c : Thread nD τ).loc b)) = StableHlo.held (c : Thread nD τ) (Pipeline.ucRefs τ sig) (W0 m c) from
      Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    isplitl [HO]; · iexists ∅; iexact HO
    isplitr; · iempintro
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

end Cert.Kernel.Own
end
-- ==== Proof.Kernel.Unchanged.lean ====
/-
  The frame of the whole program: the three argument arrays end as they were launched, and every semaphore counter ends
  at zero.
-/
module

public import proofs.«01_k».proof.Proof.Kernel.Whole

@[expose] public section

set_option maxRecDepth 16384

noncomputable section

namespace Cert.Kernel.Own

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer the first region does not write keeps its contents across it, -/
theorem keep0 (c : Dev nD) (r : Ref sig .tc) (h : ∀ w, Pipeline.arrRef spec0 w = r → (cfg0.win w).isOut = false) :
    W2 m c (Proc.devRef .tc r) = W1 m c (Proc.devRef .tc r) :=
  Pipeline.afterRegion_keeps (dat0 (atRefs (W1 m)) c) (W1 m c) launch0.win.arr_inj (fun w => A0_eq (atRefs (W1 m)) c w) r h

/-- and likewise across the second. -/
theorem keep1 (c : Dev nD) (r : Ref sig .tc) (h : ∀ w, Pipeline.arrRef spec1 w = r → (cfg1.win w).isOut = false) :
    W4 m c (Proc.devRef .tc r) = W3 m c (Proc.devRef .tc r) :=
  Pipeline.afterRegion_keeps (dat1 (atRefs (W3 m)) c) (W3 m c) launch1.win.arr_inj (fun w => A1_eq (atRefs (W3 m)) c w) r h

/-- A buffer no item writes before the second region is there as launched. -/
theorem start_to_W3 (c : Dev nD) (r : Ref sig .tc) (h0 : r ∉ hostOps0_W) (h1 : r ∉ hostOps1_W)
    (g0 : ∀ w, Pipeline.arrRef spec0 w = r → (cfg0.win w).isOut = false) :
    W3 m c (Proc.devRef .tc r) = m ((c : Thread nD τ).loc r) :=
  (StableHlo.after_of_writes_sub hostOps1 _ hostOps1_writes h1).trans <|
    (keep0 m c r g0).trans <| StableHlo.after_of_writes_sub hostOps0 _ hostOps0_writes h0

/-- A buffer no item writes ends as launched. -/
theorem start_to_W5 (c : Dev nD) (r : Ref sig .tc) (h0 : r ∉ hostOps0_W) (h1 : r ∉ hostOps1_W) (h2 : r ∉ hostOps2_W)
    (g0 : ∀ w, Pipeline.arrRef spec0 w = r → (cfg0.win w).isOut = false)
    (g1 : ∀ w, Pipeline.arrRef spec1 w = r → (cfg1.win w).isOut = false) :
    W5 m c (Proc.devRef .tc r) = m ((c : Thread nD τ).loc r) :=
  (StableHlo.after_of_writes_sub hostOps2 _ hostOps2_writes h2).trans <|
    (keep1 m c r g1).trans <| start_to_W3 m c r h0 h1 g0

theorem W5_arg0 (c : Dev nD) : W5 m c (Proc.devRef .tc main_arg0) = m ((c : Thread nD τ).loc main_arg0) :=
  start_to_W5 m c main_arg0 (by decide) (by decide) (by decide) (by decide) (by decide)
theorem W5_arg1 (c : Dev nD) : W5 m c (Proc.devRef .tc main_arg1) = m ((c : Thread nD τ).loc main_arg1) :=
  start_to_W5 m c main_arg1 (by decide) (by decide) (by decide) (by decide) (by decide)
theorem W5_arg2 (c : Dev nD) : W5 m c (Proc.devRef .tc main_arg2) = m ((c : Thread nD τ).loc main_arg2) :=
  start_to_W5 m c main_arg2 (by decide) (by decide) (by decide) (by decide) (by decide)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What the run leaves: each result buffer at the last valuation, the arguments as launched. -/
theorem run : θ_run defs (onTc (τ := τ) (main (F := F))) ⟨m, fun _ => 0, ρ⟩ (fun r => (∀ c : Dev nD,
      r.2.mem ((c : Thread nD τ).loc main_v8) = W5 m c (Proc.devRef .tc main_v8)
      ∧ r.2.mem ((c : Thread nD τ).loc main_v9) = W5 m c (Proc.devRef .tc main_v9)
      ∧ r.2.mem ((c : Thread nD τ).loc main_v3) = W5 m c (Proc.devRef .tc main_v3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c =>
    ⟨h.1 c _ (mem_uc main_v8 (by decide)), h.1 c _ (mem_uc main_v9 (by decide)), h.1 c _ (mem_uc main_v3 (by decide)),
      (h.1 c _ (mem_uc main_arg0 (by decide))).trans (W5_arg0 m c),
      (h.1 c _ (mem_uc main_arg1 (by decide))).trans (W5_arg1 m c),
      (h.1 c _ (mem_uc main_arg2 (by decide))).trans (W5_arg2 m c)⟩, h.2⟩) (run_main m ρ)

/-- The frame. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2.2.2, h.2⟩) (run m ρ)

end Cert.Kernel.Own

end
-- ==== Proof.KernelIdeal.AmaxRun.lean ====
/-
  The first kernel function, `cc0_amax`, run once over symbolic contents: one block of 1024 rows is folded, 16 rows
  at a time, into the 16-row scratch by the elementwise maximum of absolute values; the last point turns the scratch
  into the scale and the reciprocal scale.
-/
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.Value
public import Idealize.ShloMosaic.Lib.Pipeline.ValueKit
public import Idealize.ShloMosaic.Lib.Pipeline.FrameBody
public import proofs.«01_k».proof.Proof.Common
public import Idealize.ShloMosaic.Lib.Exec
public import Idealize.ShloMosaic.Lib.Tactic
public import Idealize.ShloMosaic.Lib.Pipeline.Kit
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Sixteen rows of a block, from row `16 * k`. -/
abbrev rows (x : Vec F S1024x3584 .bf16) (k : Fin k0_t1_loop.trips) : Vec F S16x3584 .bf16 :=
  View.ld x (Rect.unit (s := S1024x3584) (k0_off1 k) S16x3584.size (k0_off1_inb k))

/-- The running maximum before trip `k` of the loop over a block. -/
def rowMax (x : Vec F S1024x3584 .bf16) (acc : Vec F S16x3584 .bf16) : ℕ → Vec F S16x3584 .bf16
  | 0 => acc
  | k + 1 => if h : k < k0_t1_loop.trips then k0_pay2 (rowMax x acc k) (rows x ⟨k, h⟩) else rowMax x acc k

theorem tripR_eq (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (x : Vec F S1024x3584 .bf16)
    (k : Fin k0_t1_loop.trips) (acc : Vec F S16x3584 .bf16) :
    tripR_k0_t1 (F := F) Variants.none c none i arg1 harg1 arg2 harg2 arg3 harg3 arg4 harg4 (harg1.unread x) k acc
      = k0_pay2 acc (rows x k) := by
  unfold tripR_k0_t1 trip_k0_t1
  dsimp only
  congr 1
  funext y
  exact congrFun (harg1.read_unread x) _

theorem st_eq (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (x : Vec F S1024x3584 .bf16) (acc : Vec F S16x3584 .bf16) :
    ∀ k : ℕ, k ≤ k0_t1_loop.trips →
      st_k0_t1 (F := F) Variants.none c none i arg1 harg1 arg2 harg2 arg3 harg3 arg4 harg4 (harg1.unread x) acc k = rowMax x acc k
  | 0, _ => rfl
  | k + 1, h => by
    have hk : k < k0_t1_loop.trips := h
    refine (st_k0_t1_succ (F := F) Variants.none c none i arg1 harg1 arg2 harg2 arg3 harg3 arg4 harg4 (harg1.unread x) acc ⟨k, hk⟩).trans ?_
    rw [tripR_eq, st_eq c i arg1 harg1 arg2 harg2 arg3 harg3 arg4 harg4 x acc k hk.le]
    show _ = if h : k < k0_t1_loop.trips then k0_pay2 (rowMax x acc k) (rows x ⟨k, h⟩) else rowMax x acc k
    rw [dif_pos hk]

/-- The first condition of the body: the first grid point. -/
abbrev atFirst (i : grid0.Coords) : Prop :=
  (Scalar.cmpi .ne (Scalar.extui (Scalar.cmpi .eq (BitVec.ofNat 32 (i 0).val) 0#32) : BitVec 32) 0#32) = 1#1
/-- The second condition of the body: the last grid point. -/
abbrev atLast (i : grid0.Coords) : Prop := k0_cond2 i = 1#1

/-- The scratch after a block has been folded into it. -/
abbrev folded (x : Vec F S1024x3584 .bf16) (acc : Vec F S16x3584 .bf16) : Vec F S16x3584 .bf16 :=
  k0_pay3 (rowMax x acc k0_t1_loop.trips)

set_option maxHeartbeats 1000000 in
/-- The first point: the scratch starts at zero. -/
theorem run_first (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : atFirst i) (hc1 : ¬ atLast i)
    (x : Vec F S1024x3584 .bf16) (E : Set ℕ) (K : PUnit → sProp 𝕄) :
    iprop(owns (c : Thread nD τ) arg1 fullShare x ∗ (∃ d, owns (c : Thread nD τ) arg4 fullShare d)
        ∗ (iprop(owns (c : Thread nD τ) arg1 fullShare x ∗ owns (c : Thread nD τ) arg4 fullShare (folded x (k0_pay1 (F := F)))) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%d3, %f3, -, HS0⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr; swap; · iexact HS0
  ipureintro
  rw [View.read_writes_junk_eq_canon, View.canon_cons_unit_lit _ _ _ (by decide)]
  unfold run_first.sl.v3 run_first.sl.HS0_1
  rw [View.readCov_unit_lit _ _ _ (by decide)]
  exact congrArg k0_pay3 (st_eq c i arg1 harg1 arg2 harg2 arg3 harg3 arg4 harg4 x _ _ le_rfl)

set_option maxHeartbeats 1000000 in
/-- A point that is neither the first nor the last. -/
theorem run_mid (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : ¬ atFirst i) (hc1 : ¬ atLast i)
    (x : Vec F S1024x3584 .bf16) (a : Vec F S16x3584 .bf16) (E : Set ℕ) (K : PUnit → sProp 𝕄) :
    iprop(owns (c : Thread nD τ) arg1 fullShare x ∗ owns (c : Thread nD τ) arg4 fullShare a
        ∗ (iprop(owns (c : Thread nD τ) arg1 fullShare x ∗ owns (c : Thread nD τ) arg4 fullShare (folded x a)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%f3, %hf3, HS0⟩, Hk⟩
  obtain rfl := harg1.eq_unread hf0; obtain rfl := harg4.eq_unread hf3
  sl_exec (disch := first | sl_exact hc0 | sl_exact hc1)
  sl_step
  iapply Hk
  isplitl [H0]
  · iexists _; isplitr; · ipureintro; exact harg1.read_unread _
    iexact H0
  iexists _; isplitr; swap; · iexact HS0
  ipureintro
  rw [Cert.Own.read_store_whole _ _ _ _ _ (by decide), Cert.Own.readAt_whole harg4 _ _ (by decide)]
  exact congrArg k0_pay3 (st_eq c i arg1 harg1 arg2 harg2 arg3 harg3 arg4 harg4 x _ _ le_rfl)

set_option maxHeartbeats 1000000 in
/-- The last point. -/
theorem run_last (c : Dev nD) (i : grid0.Coords) (arg1 : Memref sig .tc .vmem S1024x3584 .bf16) (harg1 : arg1.IsWhole)
    (arg2 : Memref sig .tc .vmem S8x128 .f32) (harg2 : arg2.IsWhole) (arg3 : Memref sig .tc .vmem S8x128 .f32) (harg3 : arg3.IsWhole)
    (arg4 : Memref sig .tc .vmem S16x3584 .bf16) (harg4 : arg4.IsWhole) (hc0 : ¬ atFirst i) (hc1 : atLast i)
    (x : Vec F S1024x3584 .bf16) (a : Vec F S16x3584 .bf16) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare a
        ∗ (iprop(owns (c : Thread nD τ) arg1 fullShare x
            ∗ owns (c : Thread nD τ) arg2 fullShare (k0_pay5 (k0_pay7 (folded x a)) (k0_pay8 (folded x a)) 8388608#32)
            ∗ owns (c : Thread nD τ) arg3 fullShare (k0_pay6 (k0_pay7 (folded x a)) (k0_pay8 (folded x a)) 8388608#32)
            ∗ owns (c : Thread nD τ) arg4 fullShare (folded x a)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton]
  unfold owns
  iintro ⟨⟨%f0, %hf0, H0⟩, ⟨%d1, %f1, -, H1⟩, ⟨%d2, %f2, -, H2⟩, ⟨%f3, %hf3, HS0⟩, Hk⟩
  obtain rfl := harg1.eq_unread hf0; obtain rfl := harg4.eq_unread hf3
  sl_exec (disch := first | sl_exact hc0 | sl_exact hc1)
  have hv : run_last.sl.v12 c i arg1 harg1 arg2 harg2 arg3 harg3 arg4 harg4 x a = folded x a := by
    unfold run_last.sl.v12 run_last.sl.HS0_1
    rw [View.readCov_unit_lit _ _ _ (by decide), Cert.Own.readAt_whole harg4 _ _ (by decide)]
    exact congrArg k0_pay3 (st_eq c i arg1 harg1 arg2 harg2 arg3 harg3 arg4 harg4 x _ _ le_rfl)
  sl_step
  iapply Hk
  isplitl [H0]
  · iexists _; isplitr; · ipureintro; exact harg1.read_unread _
    iexact H0
  isplitl [H1]
  · iexists _; isplitr; swap; · iexact H1
    ipureintro
    rw [Cert.Own.read_store_whole _ _ _ _ _ (by decide)]
    unfold run_last.sl.r run_last.sl.r_1
    rw [hv]
  isplitl [H2]
  · iexists _; isplitr; swap; · iexact H2
    ipureintro
    rw [Cert.Own.read_store_whole _ _ _ _ _ (by decide)]
    unfold run_last.sl.r run_last.sl.r_1
    rw [hv]
  iexists _; isplitr; swap; · iexact HS0
  ipureintro
  unfold run_last.sl.HS0_1
  rw [Cert.Own.read_store_whole _ _ _ _ _ (by decide), Cert.Own.readAt_whole harg4 _ _ (by decide)]
  exact congrArg k0_pay3 (st_eq c i arg1 harg1 arg2 harg2 arg3 harg3 arg4 harg4 x _ _ le_rfl)

end Cert.KernelIdeal.Own
end
-- ==== Proof.KernelIdeal.AmaxRegion.lean ====
/-
  The first kernel region: what its scratch holds before each grid point (the running elementwise maximum of the
  blocks already seen), what its two results hold after the last point, and the pipeline library's body obligation.
-/
module

public import proofs.«01_k».proof.Proof.KernelIdeal.AmaxRun

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: the first `n + 1` blocks folded into it, from zero. -/
def accAt (c : Dev nD) : (n : ℕ) → n < cfg0.N → Vec F S16x3584 .bf16
  | 0, h => folded (blk0 V c 0 ⟨0, h⟩) (k0_pay1 (F := F))
  | n + 1, h => folded (blk0 V c 0 ⟨n + 1, h⟩) (accAt c n (Nat.lt_of_succ_lt h))

theorem accAt_pos (c : Dev nD) (t : Fin cfg0.N) (hz : t.val ≠ 0) :
    accAt V c t.val t.isLt = folded (blk0 V c 0 t) (accAt V c (t.val - 1) (Nat.lt_of_le_of_lt (Nat.sub_le _ _) t.isLt)) := by
  obtain ⟨n, hn⟩ := t
  cases n with
  | zero => exact absurd rfl hz
  | succ n => rfl

/-- The scale the kernel makes of a folded scratch, -/
abbrev scaleOf (a : Vec F S16x3584 .bf16) : Vec F S8x128 .f32 := k0_pay5 (k0_pay7 a) (k0_pay8 a) 8388608#32
/-- and the reciprocal scale. -/
abbrev invOf (a : Vec F S16x3584 .bf16) : Vec F S8x128 .f32 := k0_pay6 (k0_pay7 a) (k0_pay8 a) 8388608#32

/-- The scratch buffer. -/
abbrev scM : Memref sig .tc .vmem S16x3584 .bf16 := Memref.whole cc0_scratch0

/-- The scoped buffers of the second kernel region, which this one does not touch, at anything. -/
def others (c : Dev nD) : sProp 𝕄 :=
  iprop((∃ f : Buf (Elt F) ((c : Thread nD τ).loc cc1_stg2_0), ((c : Thread nD τ).loc cc1_stg2_0) ↦{fullShare} f) ∗
      (∃ f : Buf (Elt F) ((c : Thread nD τ).loc cc1_stg2_1), ((c : Thread nD τ).loc cc1_stg2_1) ↦{fullShare} f) ∗
      (∃ f : Buf (Elt F) ((c : Thread nD τ).loc cc1_stg3_0), ((c : Thread nD τ).loc cc1_stg3_0) ↦{fullShare} f) ∗
      (∃ f : Buf (Elt F) ((c : Thread nD τ).loc cc1_stg4_0), ((c : Thread nD τ).loc cc1_stg4_0) ↦{fullShare} f) ∗
      (∃ f : Buf (Elt F) ((c : Thread nD τ).loc cc1_stg4_1), ((c : Thread nD τ).loc cc1_stg4_1) ↦{fullShare} f) ∗
      (∃ f : Buf (Elt F) ((c : Thread nD τ).loc cc1_stg5_0), ((c : Thread nD τ).loc cc1_stg5_0) ↦{fullShare} f) ∗
      (∃ f : Buf (Elt F) ((c : Thread nD τ).loc cc1_stg5_1), ((c : Thread nD τ).loc cc1_stg5_1) ↦{fullShare} f) ∗
      (∃ f : Buf (Elt F) ((c : Thread nD τ).loc cc1_stg0_0), ((c : Thread nD τ).loc cc1_stg0_0) ↦{fullShare} f) ∗
      (∃ f : Buf (Elt F) ((c : Thread nD τ).loc cc1_stg1_0), ((c : Thread nD τ).loc cc1_stg1_0) ↦{fullShare} f))

theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ others c) := by
  rw [scopedRest0_eq]; simp only [scM, owns_whole]; rfl

/-- The invariant before point `n`. -/
def Phi0 (c : Dev nD) : (n : ℕ) → n ≤ cfg0.N → sProp 𝕄
  | 0, _ => iprop((∃ d, owns (c : Thread nD τ) scM fullShare d) ∗ others c)
  | n + 1, hn => iprop(owns (c : Thread nD τ) scM fullShare (accAt V c n hn) ∗ others c)

theorem Phi0_pos (c : Dev nD) (n : ℕ) (h : n ≤ cfg0.N) (hz : n ≠ 0) :
    Phi0 V c n h = iprop(owns (c : Thread nD τ) scM fullShare (accAt V c (n - 1) (by omega)) ∗ others c) := by
  cases n with
  | zero => exact absurd rfl hz
  | succ n => rfl

theorem Phi0_zero (c : Dev nD) (n : ℕ) (h : n ≤ cfg0.N) (hz : n = 0) :
    Phi0 V c n h = iprop((∃ d, owns (c : Thread nD τ) scM fullShare d) ∗ others c) := by
  subst hz; rfl

/-- The region's proof data at an entry valuation `V`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => scaleOf (accAt V c t.val t.isLt)
    | ⟨2, _⟩ => invOf (accAt V c t.val t.isLt)
  Φ t := Phi0 V c t.val (Nat.le_of_lt_succ t.isLt)
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = scaleOf (accAt V c t.val t.isLt) := by dsimp only [dat0]
theorem after0_2 (c : Dev nD) (t : Fin cfg0.N) : (dat0 V c).after 2 t = invOf (accAt V c t.val t.isLt) := by dsimp only [dat0]

/-- The input's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A0_eq]) t d).trans
    (by unfold Dat.fetched Dat.blockOf blk0; rw [A0_eq]; rfl)

theorem atFirst_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [atFirst, e0]
    word_cmp
   : ∀ t : Fin grid0.N, atFirst (grid0.coords t) ↔ t.val = 0)

theorem atLast_iff : ∀ t : Fin cfg0.N, atLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [atLast, k0_cond2, e0]
    word_cmp
   : ∀ t : Fin grid0.N, atLast (grid0.coords t) ↔ t.val = 15)

/-- Before the last point the two results are neither stored nor written back. -/
theorem idle0_1 : ∀ t : Fin cfg0.N, t.val ≠ 15 → cfg0.idle 1 (grid0.coords t) = true ∧ (cfg0.win 1).flush t = false := by decide +kernel
theorem idle0_2 : ∀ t : Fin cfg0.N, t.val ≠ 15 → cfg0.idle 2 (grid0.coords t) = true ∧ (cfg0.win 2).flush t = false := by decide +kernel
theorem live0_1 : ∀ t : Fin cfg0.N, t.val = 15 → cfg0.idle 1 (grid0.coords t) = false := by decide +kernel
theorem live0_2 : ∀ t : Fin cfg0.N, t.val = 15 → cfg0.idle 2 (grid0.coords t) = false := by decide +kernel

/-- The staging buffers at a point. -/
abbrev ms0_0 (t : Fin cfg0.N) : Memref sig .tc .vmem S1024x3584 .bf16 := win0_0.stage (cfg0.slots t 0)
abbrev ms0_1 (t : Fin cfg0.N) : Memref sig .tc .vmem S8x128 .f32 := win0_1.stage (cfg0.slots t 1)
abbrev ms0_2 (t : Fin cfg0.N) : Memref sig .tc .vmem S8x128 .f32 := win0_2.stage (cfg0.slots t 2)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = iprop(owns (c : Thread nD τ) scM fullShare (accAt V c t.val t.isLt) ∗ others c) from rfl]
  rw [show (dat0 V c).Φ t.castSucc = Phi0 V c t.val (Nat.le_of_lt t.isLt) from by
    dsimp only [dat0]; exact Pipeline.Dat.Φ_castSucc (Phi0 V c) t]
  rw [show (dat0 V c).leavesExact 0 t = owns (c : Thread nD τ) (ms0_0 t) fullShare ((dat0 V c).after 0 t) from by
    unfold Dat.leavesExact; rw [show cfg0.idle 0 (grid0.coords t) = false from rfl], after0_0]
  by_cases h1 : t.val = 15
  · have h0 : t.val ≠ 0 := by omega
    rw [show (dat0 V c).leavesExact 1 t = owns (c : Thread nD τ) (ms0_1 t) fullShare ((dat0 V c).after 1 t) from by
      unfold Dat.leavesExact; rw [live0_1 t h1], after0_1]
    rw [show (dat0 V c).leavesExact 2 t = owns (c : Thread nD τ) (ms0_2 t) fullShare ((dat0 V c).after 2 t) from by
      unfold Dat.leavesExact; rw [live0_2 t h1], after0_2]
    rw [Phi0_pos V c _ _ h0, accAt_pos V c t h0]
    iintro ⟨⟨HS0, Hg⟩, Ho, ⟨%d0, H0⟩, ⟨%d1, H1⟩, ⟨%d2, H2⟩⟩
    iapply (run_last c (grid0.coords t) _ _ _ _ _ _ _ _ (fun h => h0 ((atFirst_iff t).mp h)) ((atLast_iff t).mpr h1) (blk0 V c 0 t) _ Set.univ _)
    isplitl [H0]; · iexact H0
    isplitl [H1]; · iexists _; iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2
  · rw [Dat.leavesExact_idle (dat0 V c) 1 t (idle0_1 t h1).1 (idle0_1 t h1).2,
      Dat.leavesExact_idle (dat0 V c) 2 t (idle0_2 t h1).1 (idle0_2 t h1).2]
    by_cases h0 : t.val = 0
    · rw [Phi0_zero V c _ _ h0]
      rw [show accAt V c t.val t.isLt = folded (blk0 V c 0 t) (k0_pay1 (F := F)) from by
        obtain ⟨n, hn⟩ := t; obtain rfl : n = 0 := h0; rfl]
      iintro ⟨⟨HS0, Hg⟩, Ho, ⟨%d0, H0⟩, ⟨%d1, H1⟩, ⟨%d2, H2⟩⟩
      iapply (run_first c (grid0.coords t) _ _ _ _ _ _ _ _ ((atFirst_iff t).mpr h0) (fun h => h1 ((atLast_iff t).mp h)) (blk0 V c 0 t) Set.univ _)
      isplitl [H0]; · iexact H0
      isplitl [HS0]; · iexact HS0
      iintro ⟨H0, HS0⟩
      isplitl [HS0 Hg]
      · isplitl [HS0]; · iexact HS0
        iexact Hg
      isplitl [Ho]; · iexact Ho
      isplitl [H0]; · iexact H0
      isplitl [H1]; · iexists _; iexact H1
      iexists _; iexact H2
    · rw [Phi0_pos V c _ _ h0, accAt_pos V c t h0]
      iintro ⟨⟨HS0, Hg⟩, Ho, ⟨%d0, H0⟩, ⟨%d1, H1⟩, ⟨%d2, H2⟩⟩
      iapply (run_mid c (grid0.coords t) _ _ _ _ _ _ _ _ (fun h => h0 ((atFirst_iff t).mp h)) (fun h => h1 ((atLast_iff t).mp h)) (blk0 V c 0 t) _ Set.univ _)
      isplitl [H0]; · iexact H0
      isplitl [HS0]; · iexact HS0
      iintro ⟨H0, HS0⟩
      isplitl [HS0 Hg]
      · isplitl [HS0]; · iexact HS0
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

/-- The scoped buffers no window stages give the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [scopedRest_split, show (dat0 V c).Φ 0 = Phi0 V c 0 (Nat.zero_le _) from rfl, Phi0_zero V c 0 _ rfl]

/-- and the invariant after the last point gives them back. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [scopedRest_split, show (dat0 V c).Φ (Fin.last cfg0.N) = Phi0 V c cfg0.N le_rfl from rfl,
    Phi0_pos V c _ _ (by rw [show cfg0.N = 16 from N_0]; decide)]
  iintro ⟨HS0, Hg⟩
  isplitl [HS0]; · iexists _; iexact HS0
  iexact Hg

end Cert.KernelIdeal.Own
end
-- ==== Proof.KernelIdeal.LinearRun.lean ====
/-
  The second kernel function, `cc1_linear`, run once over symbolic contents: the first column block of a row block
  quantises the row block and keeps its codes; every column block multiplies the codes by its 1024 columns.
-/
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.Value
public import Idealize.ShloMosaic.Lib.Pipeline.ValueKit
public import Idealize.ShloMosaic.Lib.Pipeline.FrameBody
public import proofs.«01_k».proof.Proof.Common
public import Idealize.ShloMosaic.Lib.Exec
public import Idealize.ShloMosaic.Lib.Tactic
public import Idealize.ShloMosaic.Lib.Pipeline.Kit
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first column block of its row block. -/
abbrev atFresh (i : grid1.Coords) : Prop := k1_cond1 i = 1#1

/-- The 1024 columns of the second operand the point takes. -/
abbrev cols (w : Vec F S3584x14336 .fp8e4m3) (i : grid1.Coords) : Vec F S3584x1024 .fp8e4m3 :=
  View.ld w (Rect.unit (s := S3584x14336) (k1_off1 i) S3584x1024.size (k1_off1_inb i))

/-- The one element of a 1×1 buffer. -/
abbrev one (x : Vec F S1x1 .f32) : Elt F .f32 := x (Shape.Idx.first (numel1_S1x1.symm ▸ Nat.one_pos))

set_option maxHeartbeats 1000000 in
/-- The first column block of a row block. -/
theorem run_fresh (c : Dev nD) (i : grid1.Coords) (arg2 : Memref sig .tc .smem S1x1 .f32) (harg2 : arg2.IsWhole)
    (arg3 : Memref sig .tc .smem S1x1 .f32) (harg3 : arg3.IsWhole) (arg4 : Memref sig .tc .vmem S256x3584 .bf16) (harg4 : arg4.IsWhole)
    (arg5 : Memref sig .tc .vmem S3584x14336 .fp8e4m3) (harg5 : arg5.IsWhole) (arg6 : Memref sig .tc .vmem S256x1024 .bf16) (harg6 : arg6.IsWhole)
    (arg7 : Memref sig .tc .vmem S256x3584 .fp8e4m3) (harg7 : arg7.IsWhole) (hc0 : atFresh i)
    (x0 : Vec F S1x1 .f32) (x1 : Vec F S1x1 .f32) (x2 : Vec F S256x3584 .bf16) (x3 : Vec F S3584x14336 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay2 (cols x3 i) (k1_pay1 (one x1) x2) (one x0))
            ∗ owns (c : Thread nD τ) arg7 fullShare (k1_pay1 (one x1) x2)) -∗ K ⟨⟩))
      ⊢ wp frame (wpE (defs₀ (F := F)) Variants.none c none) E (cc1_linear i arg2 harg2 arg3 harg3 arg4 harg4 arg5 harg5 arg6 harg6 arg7 harg7) K := by
  simp only [cc1_linear_eq_skeleton]; unfold cc1_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [Cert.Own.read_store_whole _ _ _ _ _ (by decide)]
    unfold run_fresh.sl.v7 run_fresh.sl.r_1 run_fresh.sl.H5_1
    rw [View.readCov_unit_lit _ _ _ (by decide)]
    unfold run_fresh.sl.r
    rw [Cert.Own.readAt_whole harg2 _ _ (by decide), Cert.Own.readAt_whole harg3 _ _ (by decide), Cert.Own.readAt_whole harg4 _ _ (by decide)]
    rw [show View.readAt (Elt F) arg5.view (Rect.unit (s := S3584x14336) (k1_off1 i) S3584x1024.size (k1_off1_inb i)).toLoadRect (harg5.unread x3) = cols x3 i from
      funext fun y => congrFun (harg5.read_unread x3) _]
  iexists _; isplitr; swap; · iexact H5
  ipureintro
  unfold run_fresh.sl.H5_1
  rw [Cert.Own.read_store_whole _ _ _ _ _ (by decide)]
  unfold run_fresh.sl.r
  rw [Cert.Own.readAt_whole harg3 _ _ (by decide), Cert.Own.readAt_whole harg4 _ _ (by decide)]

set_option maxHeartbeats 1000000 in
/-- Every other column block. -/
theorem run_kept (c : Dev nD) (i : grid1.Coords) (arg2 : Memref sig .tc .smem S1x1 .f32) (harg2 : arg2.IsWhole)
    (arg3 : Memref sig .tc .smem S1x1 .f32) (harg3 : arg3.IsWhole) (arg4 : Memref sig .tc .vmem S256x3584 .bf16) (harg4 : arg4.IsWhole)
    (arg5 : Memref sig .tc .vmem S3584x14336 .fp8e4m3) (harg5 : arg5.IsWhole) (arg6 : Memref sig .tc .vmem S256x1024 .bf16) (harg6 : arg6.IsWhole)
    (arg7 : Memref sig .tc .vmem S256x3584 .fp8e4m3) (harg7 : arg7.IsWhole) (hc0 : ¬ atFresh i)
    (x0 : Vec F S1x1 .f32) (x3 : Vec F S3584x14336 .fp8e4m3) (x5 : Vec F S256x3584 .fp8e4m3)
    (E : Set ℕ) (K : PUnit → sProp 𝕄) :
    iprop(owns (c : Thread nD τ) arg2 fullShare x0
        ∗ owns (c : Thread nD τ) arg5 fullShare x3 ∗ (∃ d, owns (c : Thread nD τ) arg6 fullShare d) ∗ owns (c : Thread nD τ) arg7 fullShare x5
        ∗ (iprop(owns (c : Thread nD τ) arg2 fullShare x0
            ∗ owns (c : Thread nD τ) arg5 fullShare x3
            ∗ owns (c : Thread nD τ) arg6 fullShare (k1_pay2 (cols x3 i) x5 (one x0))
            ∗ owns (c : Thread nD τ) arg7 fullShare x5) -∗ K ⟨⟩))
      ⊢ wp frame (wpE (defs₀ (F := F)) Variants.none c none) E (cc1_linear i arg2 harg2 arg3 harg3 arg4 harg4 arg5 harg5 arg6 harg6 arg7 harg7) K := by
  simp only [cc1_linear_eq_skeleton]; unfold cc1_linear_skel
  unfold owns
  iintro ⟨⟨%f0, %hf0, H0⟩, ⟨%f3, %hf3, H3⟩, ⟨%d4, %f4, -, H4⟩, ⟨%f5, %hf5, H5⟩, Hk⟩
  obtain rfl := harg2.eq_unread hf0; obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H3]
  · iexists _; isplitr; · ipureintro; exact harg5.read_unread _
    iexact H3
  isplitl [H4]
  · iexists _; isplitr; swap; · iexact H4
    ipureintro
    rw [Cert.Own.read_store_whole _ _ _ _ _ (by decide)]
    unfold run_kept.sl.r
    rw [Cert.Own.readAt_whole harg2 _ _ (by decide), Cert.Own.readAt_whole harg7 _ _ (by decide)]
    rw [show View.readAt (Elt F) arg5.view (Rect.unit (s := S3584x14336) (k1_off1 i) S3584x1024.size (k1_off1_inb i)).toLoadRect (harg5.unread x3) = cols x3 i from
      funext fun y => congrFun (harg5.read_unread x3) _]
  iexists _; isplitr; swap; · iexact H5
  ipureintro
  exact harg7.read_unread _

end Cert.KernelIdeal.Own
end
-- ==== Proof.KernelIdeal.LinearRegion.lean ====
/-
  The second kernel region: the codes of a row block, made at the first of its fourteen points and carried through
  the other thirteen, the tile of the product each point leaves, and the pipeline library's body obligation.
-/
module

public import proofs.«01_k».proof.Proof.KernelIdeal.LinearRun
public import Idealize.ShloMosaic.Lib.Pipeline.TableIdle

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the row block of point `t`. -/
abbrev rowStart (t : Fin cfg1.N) : Fin cfg1.N := ⟨14 * (t.val / 14), Nat.lt_of_le_of_lt (Nat.mul_div_le _ _) t.isLt⟩

/-- The codes of the row block of point `t`. -/
def codesAt (c : Dev nD) (t : Fin cfg1.N) : Vec F S256x3584 .fp8e4m3 :=
  k1_pay1 (one (blk1 V c 1 (rowStart t))) (blk1 V c 2 (rowStart t))

/-- The tile of the product at point `t`. -/
def tileAt (c : Dev nD) (t : Fin cfg1.N) : Vec F S256x1024 .bf16 :=
  k1_pay2 (cols (blk1 V c 3 t) (grid1.coords t)) (codesAt V c t) (one (blk1 V c 0 t))

/-- The region's proof data at an entry valuation `V`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => tileAt V c t
    | ⟨5, _⟩ => codesAt V c t
  Φ _ := (Pipeline.scopedRest (Ix := Unit) (Name := ℕ) (U := UR sig nD τ) (Lvl := ℕ) (Val := Elt F) spec1 c : sProp 𝕄)
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = tileAt V c t := by dsimp only [dat1]
theorem after1_5 (c : Dev nD) (t : Fin cfg1.N) : (dat1 V c).after 5 t = codesAt V c t := by dsimp only [dat1]

/-- Each input's staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A1_eq]) t d).trans
    (by unfold Dat.fetched Dat.blockOf blk1; rw [A1_eq]; rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A1_eq]) t d).trans
    (by unfold Dat.fetched Dat.blockOf blk1; rw [A1_eq]; rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A1_eq]) t d).trans
    (by unfold Dat.fetched Dat.blockOf blk1; rw [A1_eq]; rfl)
theorem before1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [A1_eq]) t d).trans
    (by unfold Dat.fetched Dat.blockOf blk1; rw [A1_eq]; rfl)

theorem atFresh_iff : ∀ t : Fin cfg1.N, atFresh (grid1.coords t) ↔ t.val % 14 = 0 :=
  (fun t => by
    have ht : t.val < 896 := Nat.lt_of_lt_of_eq t.isLt N_1
    have e0 : (grid1.coords t 0).val = t.val / 14 % 64 := Pipeline.Grid.coords_val t 0 (by decide) rfl
    have e1 : (grid1.coords t 1).val = t.val / 1 % 14 := Pipeline.Grid.coords_val t 1 (by decide) rfl
    simp only [atFresh, k1_cond1, e0, e1]
    word_cmp
   : ∀ t : Fin grid1.N, atFresh (grid1.coords t) ↔ t.val % 14 = 0)

theorem idle1_5 (t : Fin cfg1.N) : cfg1.idle 5 (grid1.coords t) = true ↔ t.val % 14 ≠ 0 := by
  have h : cfg1.idle 5 (grid1.coords t) = !(k1_cond1 (grid1.coords t) == 1#1) := rfl
  rw [h, Bool.not_eq_true', beq_eq_false_iff_ne]
  exact not_congr (atFresh_iff t)

theorem flush1_5_false (t : Fin cfg1.N) (h : t.val % 14 ≠ 13) : (cfg1.win 5).flush t = false :=
  Bool.eq_false_iff.mpr fun hf => h ((flush1_5 t).mp hf)

/-- The codes' buffer holds nothing stored exactly where a row block begins. -/
theorem fresh1_5 : ∀ n, n < cfg1.N → (cfg1.fresh 5 n = true ↔ n % 14 = 0)
  | 0, _ => by simp [Cfg.fresh_zero]
  | n + 1, h => by
    have hn : n < cfg1.N := Nat.lt_of_succ_lt h
    rw [Cfg.fresh_succ cfg1 5 n hn, Bool.or_eq_true, Bool.and_eq_true, flush1_5, fresh1_5 n hn,
      show cfg1.grid.coords ⟨n, hn⟩ = grid1.coords ⟨n, hn⟩ from rfl, idle1_5 ⟨n, hn⟩]
    dsimp only
    omega

theorem codesAt_carry (c : Dev nD) (t : Fin cfg1.N) (h : t.val % 14 ≠ 0) :
    codesAt V c t = codesAt V c ⟨t.val - 1, by omega⟩ := by
  unfold codesAt
  rw [show rowStart t = rowStart ⟨t.val - 1, by omega⟩ from Fin.ext (by show 14 * (t.val / 14) = 14 * ((t.val - 1) / 14); omega)]

/-- Past the first point of a row block the codes' buffer holds the row block's codes. -/
theorem before1_5 (c : Dev nD) (t : Fin cfg1.N) (h : t.val % 14 ≠ 0) (d) : (dat1 V c).before 5 t d = codesAt V c t := by
  rw [(dat1 V c).before_out_traj 5 rfl (fun _ _ => rfl)
    (fun t _ hi _ => by rw [after1_5, after1_5]; exact codesAt_carry V c t ((idle1_5 t).mp hi)) t.val t rfl d,
    if_neg fun hf => h ((fresh1_5 t.val t.isLt).mp hf), after1_5]
  exact (codesAt_carry V c t h).symm

/-- The staging buffers at a point. -/
abbrev ms1_0 (t : Fin cfg1.N) : Memref sig .tc .smem S1x1 .f32 := win1_0.stage (cfg1.slots t 0)
abbrev ms1_1 (t : Fin cfg1.N) : Memref sig .tc .smem S1x1 .f32 := win1_1.stage (cfg1.slots t 1)
abbrev ms1_2 (t : Fin cfg1.N) : Memref sig .tc .vmem S256x3584 .bf16 := win1_2.stage (cfg1.slots t 2)
abbrev ms1_3 (t : Fin cfg1.N) : Memref sig .tc .vmem S3584x14336 .fp8e4m3 := win1_3.stage (cfg1.slots t 3)
abbrev ms1_4 (t : Fin cfg1.N) : Memref sig .tc .vmem S256x1024 .bf16 := win1_4.stage (cfg1.slots t 4)
abbrev ms1_5 (t : Fin cfg1.N) : Memref sig .tc .vmem S256x3584 .fp8e4m3 := win1_5.stage (cfg1.slots t 5)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_5_fresh (c : Dev nD) (t : Fin cfg1.N) (h : t.val % 14 = 0) :
    (dat1 V c).leavesExact 5 t = owns (c : Thread nD τ) (ms1_5 t) fullShare (codesAt V c t) := by
  unfold Dat.leavesExact
  rw [Bool.eq_false_iff.mpr fun hi => (idle1_5 t).mp hi h, after1_5]

/-- Kept codes are what the point owes the next one, and what the last point of the row block writes back. -/
theorem leaves1_5_kept (c : Dev nD) (t : Fin cfg1.N) (h : t.val % 14 ≠ 0) :
    owns (c : Thread nD τ) (ms1_5 t) fullShare (codesAt V c t) ⊢ ((dat1 V c).leavesExact 5 t : sProp 𝕄) := by
  by_cases hf : t.val % 14 = 13
  · unfold Dat.leavesExact
    rw [(idle1_5 t).mpr h, (flush1_5 t).mpr hf, after1_5]
  · rw [Dat.leavesExact_idle (dat1 V c) 5 t ((idle1_5 t).mpr h) (flush1_5_false t hf)]
    simp only [before1_5 V c t h]
    iintro H
    iexists (codesAt V c t)
    iexact H

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = (dat1 V c).Φ t.castSucc from rfl]
  rw [show (dat1 V c).leavesExact 0 t = owns (c : Thread nD τ) (ms1_0 t) fullShare ((dat1 V c).after 0 t) from by
    unfold Dat.leavesExact; rw [show cfg1.idle 0 (grid1.coords t) = false from rfl], after1_0]
  rw [show (dat1 V c).leavesExact 1 t = owns (c : Thread nD τ) (ms1_1 t) fullShare ((dat1 V c).after 1 t) from by
    unfold Dat.leavesExact; rw [show cfg1.idle 1 (grid1.coords t) = false from rfl], after1_1]
  rw [show (dat1 V c).leavesExact 2 t = owns (c : Thread nD τ) (ms1_2 t) fullShare ((dat1 V c).after 2 t) from by
    unfold Dat.leavesExact; rw [show cfg1.idle 2 (grid1.coords t) = false from rfl], after1_2]
  rw [show (dat1 V c).leavesExact 3 t = owns (c : Thread nD τ) (ms1_3 t) fullShare ((dat1 V c).after 3 t) from by
    unfold Dat.leavesExact; rw [show cfg1.idle 3 (grid1.coords t) = false from rfl], after1_3]
  rw [show (dat1 V c).leavesExact 4 t = owns (c : Thread nD τ) (ms1_4 t) fullShare ((dat1 V c).after 4 t) from by
    unfold Dat.leavesExact; rw [show cfg1.idle 4 (grid1.coords t) = false from rfl], after1_4]
  by_cases h : t.val % 14 = 0
  · rw [leaves1_5_fresh V c t h]
    have ht : rowStart t = t := Fin.ext (by show 14 * (t.val / 14) = t.val; omega)
    have hc : codesAt V c t = k1_pay1 (one (blk1 V c 1 t)) (blk1 V c 2 t) := by unfold codesAt; rw [ht]
    unfold tileAt
    rw [hc]
    iintro ⟨Hg, Ho, ⟨%d0, H0⟩, ⟨%d1, H1⟩, ⟨%d2, H2⟩, ⟨%d3, H3⟩, ⟨%d4, H4⟩, ⟨%d5, H5⟩⟩
    iapply (run_fresh c (grid1.coords t) _ _ _ _ _ _ _ _ _ _ _ _ ((atFresh_iff t).mpr h) (blk1 V c 0 t) (blk1 V c 1 t) (blk1 V c 2 t) (blk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before1_5 V c t h]
    unfold tileAt
    have hk := leaves1_5_kept V c t h
    iintro ⟨Hg, Ho, ⟨%d0, H0⟩, ⟨%d1, H1⟩, ⟨%d2, H2⟩, ⟨%d3, H3⟩, ⟨%d4, H4⟩, ⟨%d5, H5⟩⟩
    iapply (run_kept c (grid1.coords t) _ _ _ _ _ _ _ _ _ _ _ _ (fun hf => h ((atFresh_iff t).mp hf)) (blk1 V c 0 t) (blk1 V c 3 t) (codesAt V c t) Set.univ _)
    isplitl [H0]; · iexact H0
    isplitl [H3]; · iexact H3
    isplitl [H4]; · iexists _; iexact H4
    isplitl [H5]; · iexact H5
    iintro ⟨H0, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iapply hk; iexact H5

/-- The library's body obligation, at every point. -/
theorem body_obligation1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

/-- The invariant is the scoped buffers no window stages: it is what the region is entered with, -/
theorem hin1 (c : Dev nD) :
    (Pipeline.scopedRest (Ix := Unit) (Name := ℕ) (U := UR sig nD τ) (Lvl := ℕ) (Val := Elt F) spec1 c : sProp 𝕄) ⊢ (dat1 V c).Φ 0 := by
  dsimp only [dat1]; exact .rfl

/-- and what it is left with. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  dsimp only [dat1]; exact .rfl

end Cert.KernelIdeal.Own
end
-- ==== Proof.KernelIdeal.Whole.lean ====
/-
  The whole program: @main as its host stretches and two kernel regions, run in order over the contents of the
  buffers that outlive a region.
-/
module

public import proofs.«01_k».proof.Proof.KernelIdeal.AmaxRegion
public import proofs.«01_k».proof.Proof.KernelIdeal.LinearRegion
public import proofs.«01_k».proof.Proof.Gen.KernelIdeal.Regions
public import proofs.«01_k».proof.Proof.Segment

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- A valuation read at the TensorCore's references. -/
abbrev atRefs (W : Dev nD → Valuation τ sig (Elt F)) (c : Dev nD) (b : Ref sig .tc) : Buf (Elt F) ((c : Thread nD τ).loc b) :=
  W c (Proc.devRef .tc b)

/-- At launch; -/
abbrev W0 (c : Dev nD) : Valuation τ sig (Elt F) := fun b => m (c, b)
/-- after the reshape of the activations, as the first region is entered; -/
abbrev W1 (c : Dev nD) : Valuation τ sig (Elt F) := StableHlo.after hostOps0 (W0 m c)
/-- after the first region; -/
abbrev W2 (c : Dev nD) : Valuation τ sig (Elt F) := Pipeline.afterRegion (dat0 (atRefs (W1 m)) c) (W1 m c)
/-- after the scalars are cut out, as the second region is entered; -/
abbrev W3 (c : Dev nD) : Valuation τ sig (Elt F) := StableHlo.after hostOps1 (W2 m c)
/-- after the second region; -/
abbrev W4 (c : Dev nD) : Valuation τ sig (Elt F) := Pipeline.afterRegion (dat1 (atRefs (W3 m)) c) (W3 m c)
/-- at the end. -/
abbrev W5 (c : Dev nD) : Valuation τ sig (Elt F) := StableHlo.after hostOps2 (W4 m c)

/-! ## The items as segments -/

/-- Every TensorCore semaphore has a level, the lowest. -/
abbrev Lv : GSem nD τ sig → Finset Unit := fun g => if g.1.2 = .tc then Finset.univ else ∅
abbrev lv : GSem nD τ sig → Unit → ℕ := fun _ _ => 0

/-- The two regions' proof data. -/
abbrev pdats : (p : Fin 2) → (c : Dev nD) → Dat τ (Elt F) Unit ℕ (UR sig nD τ) ℕ (cfgs p) c
  | 0 => fun c => dat0 (atRefs (W1 m)) c
  | 1 => fun c => dat1 (atRefs (W3 m)) c

theorem levels (p : Fin 2) : Pipeline.LevelCut (pcfgs (F := F)) adm () (Lv) lv p (fun _ : Dev nD => (0 : CellTallies nD τ sig Unit)) (fun _ => 0) where
  hι _ _ _ := by simp [Lv]
  hιb _ _ _ := le_rfl
  hD _ _ _ h := absurd h (lt_irrefl 0)

def host0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Cert.Own.rest
def host1 : HostSeg (Ix := Unit) (Name := ℕ) (U := UR sig nD τ) (Lvl := ℕ) (pcfgs (F := F)) defs₀ Variants.none Lv lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Cert.Own.rest
def host2 : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Cert.Own.rest

set_option backward.isDefEq.respectTransparency.types false in
/-- The first region's segment. -/
theorem region0 : ∃ R : RegionSeg (pcfgs (F := F)) adm (pdats m) () defs₀ Variants.none Lv lv 0,
    (∀ c : Dev nD, iprop(StableHlo.held (c : Thread nD τ) (Pipeline.ucRefs τ sig) (W1 m c) ∗ Cert.Own.rest c) ⊢ R.pre c)
    ∧ ∀ c : Dev nD, R.post c ⊢ iprop(StableHlo.held (c : Thread nD τ) (Pipeline.ucRefs τ sig) (W2 m c) ∗ Cert.Own.rest c) :=
  Cert.Own.exists_segment (pcfgs (F := F)) adm (pdats m) () defs₀ Variants.none Lv lv 0 (Pipeline.ucRefs τ sig)
    (Pipeline.arrRefs_sub_ucRefs _ fun w => launch0.win.arr_unscoped w)
    launch0.toP rfl (fun _ => 0) (fun _ => iprop(emp)) (fun _ => iprop(emp)) (fun _ => iprop(emp)) (fun c => (body_obligation0 (atRefs (W1 m)) c).loose) (fun _ _ => rfl) (fun _ => rfl)
    (fun c => (pdats m 0 c).share_full fun _ => rfl)
    (fun c => by iintro ⟨H, -⟩; iapply (hin0 (atRefs (W1 m)) c); iexact H)
    (fun c => by
      refine (hout0 (atRefs (W1 m)) c).trans ?_
      iintro H; isplitl [H]; · iexact H
      iempintro)
    (fun _ => 0) (levels 0) (W1 m) (fun c w => A0_eq (atRefs (W1 m)) c w)

set_option backward.isDefEq.respectTransparency.types false in
/-- The second region's segment. -/
theorem region1 : ∃ R : RegionSeg (pcfgs (F := F)) adm (pdats m) () defs₀ Variants.none Lv lv 1,
    (∀ c : Dev nD, iprop(StableHlo.held (c : Thread nD τ) (Pipeline.ucRefs τ sig) (W3 m c) ∗ Cert.Own.rest c) ⊢ R.pre c)
    ∧ ∀ c : Dev nD, R.post c ⊢ iprop(StableHlo.held (c : Thread nD τ) (Pipeline.ucRefs τ sig) (W4 m c) ∗ Cert.Own.rest c) :=
  Cert.Own.exists_segment (pcfgs (F := F)) adm (pdats m) () defs₀ Variants.none Lv lv 1 (Pipeline.ucRefs τ sig)
    (Pipeline.arrRefs_sub_ucRefs _ fun w => launch1.win.arr_unscoped w)
    launch1.toP rfl (fun _ => 0) (fun _ => iprop(emp)) (fun _ => iprop(emp)) (fun _ => iprop(emp)) (fun c => (body_obligation1 (atRefs (W3 m)) c).loose) (fun _ _ => rfl) (fun _ => rfl)
    (fun c => (pdats m 1 c).share_full fun _ => rfl)
    (fun c => by iintro ⟨H, -⟩; iapply (hin1 (atRefs (W3 m)) c); iexact H)
    (fun c => by
      refine (hout1 (atRefs (W3 m)) c).trans ?_
      iintro H; isplitl [H]; · iexact H
      iempintro)
    (fun _ => 0) (levels 1) (W3 m) (fun c w => A1_eq (atRefs (W3 m)) c w)

/-- The launch's share of the pipelines' state. -/
abbrev launchTok : UR sig nD τ := initOf (Pipeline.cells cfgs cellOf_inj) (Pipeline.launchToks cfgs cellOf_inj)

set_option backward.isDefEq.respectTransparency.types false in
/-- Every weakly fair execution of @main terminates with every buffer that outlives the regions at its last contents
    and every counter at zero. -/
theorem run_main :
    θ_run defs (onTc (τ := τ) (main (F := F))) ⟨m, fun _ => 0, ρ⟩ (fun r => (∀ c : Dev nD, ∀ b ∈ Pipeline.ucRefs τ sig,
      r.2.mem ((c.tc : Thread nD τ).1, b) = W5 m c b) ∧ r.2.sem = fun _ => 0) := by
  obtain ⟨R0, pre0, post0⟩ := region0 m
  obtain ⟨R1, pre1, post1⟩ := region1 m
  let segsW : Dev nD → List (Seg (pcfgs (F := F)) adm (pdats m) () defs₀ Variants.none Lv lv) := fun _ =>
    [.host (host0 m), .region R0, .host (host1 m), .region R1, .host (host2 m)]
  refine Pipeline.θ_run_regions_kit_dev_sems (pcfgs (F := F)) adm (pdats m) () cellOf_inj emb₁ defs₀ Variants.none Lv lv m ρ main
    segsW
    (fun c Q => by
      rewrite [main_chain c, Seg.run_eq_chain,
        show (segsW c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segsW, Seg.pipes_host, Seg.pipes_region, Seg.pipes_nil]; decide) (fun _ => 0)
    (fun g hg => by simp only [Lv, if_neg hg]) (fun _ => iprop(emp)) launchTok
    (by
      iintro Hu
      imodintro
      isplitl [Hu]
      · iapply (show (ownU launchTok : sProp 𝕄) ⊢ BI.own (emb₁ launchTok) from by rw [ownU_emb₁])
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Cert.Own.rest c))
    (Tₙ := fun c => StableHlo.held (c : Thread nD τ) (Pipeline.ucRefs τ sig) (W5 m c))
    (hch := fun c => ⟨.rfl,
      pre0 c, post0 c, pre1 c, post1 c,
      sep_mono .rfl (by iintro ⟨H, -⟩; iexact H)⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · refine Pipeline.initEach Lv lv fun c => ?_
    rw [show unscopedBufs c (fun b => m ((c : Thread nD τ).loc b)) = StableHlo.held (c : Thread nD τ) (Pipeline.ucRefs τ sig) (W0 m c) from
      Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    isplitl [HO]; · iexists ∅; iexact HO
    isplitr; · iempintro
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

end Cert.KernelIdeal.Own
end
-- ==== Proof.KernelIdeal.Unchanged.lean ====
/-
  The frame of the whole program: the three argument arrays end as they were launched, and every semaphore counter ends
  at zero.
-/
module

public import proofs.«01_k».proof.Proof.KernelIdeal.Whole

@[expose] public section

set_option maxRecDepth 16384

noncomputable section

namespace Cert.KernelIdeal.Own

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer the first region does not write keeps its contents across it, -/
theorem keep0 (c : Dev nD) (r : Ref sig .tc) (h : ∀ w, Pipeline.arrRef spec0 w = r → (cfg0.win w).isOut = false) :
    W2 m c (Proc.devRef .tc r) = W1 m c (Proc.devRef .tc r) :=
  Pipeline.afterRegion_keeps (dat0 (atRefs (W1 m)) c) (W1 m c) launch0.win.arr_inj (fun w => A0_eq (atRefs (W1 m)) c w) r h

/-- and likewise across the second. -/
theorem keep1 (c : Dev nD) (r : Ref sig .tc) (h : ∀ w, Pipeline.arrRef spec1 w = r → (cfg1.win w).isOut = false) :
    W4 m c (Proc.devRef .tc r) = W3 m c (Proc.devRef .tc r) :=
  Pipeline.afterRegion_keeps (dat1 (atRefs (W3 m)) c) (W3 m c) launch1.win.arr_inj (fun w => A1_eq (atRefs (W3 m)) c w) r h

/-- A buffer no item writes before the second region is there as launched. -/
theorem start_to_W3 (c : Dev nD) (r : Ref sig .tc) (h0 : r ∉ hostOps0_W) (h1 : r ∉ hostOps1_W)
    (g0 : ∀ w, Pipeline.arrRef spec0 w = r → (cfg0.win w).isOut = false) :
    W3 m c (Proc.devRef .tc r) = m ((c : Thread nD τ).loc r) :=
  (StableHlo.after_of_writes_sub hostOps1 _ hostOps1_writes h1).trans <|
    (keep0 m c r g0).trans <| StableHlo.after_of_writes_sub hostOps0 _ hostOps0_writes h0

/-- A buffer no item writes ends as launched. -/
theorem start_to_W5 (c : Dev nD) (r : Ref sig .tc) (h0 : r ∉ hostOps0_W) (h1 : r ∉ hostOps1_W) (h2 : r ∉ hostOps2_W)
    (g0 : ∀ w, Pipeline.arrRef spec0 w = r → (cfg0.win w).isOut = false)
    (g1 : ∀ w, Pipeline.arrRef spec1 w = r → (cfg1.win w).isOut = false) :
    W5 m c (Proc.devRef .tc r) = m ((c : Thread nD τ).loc r) :=
  (StableHlo.after_of_writes_sub hostOps2 _ hostOps2_writes h2).trans <|
    (keep1 m c r g1).trans <| start_to_W3 m c r h0 h1 g0

theorem W5_arg0 (c : Dev nD) : W5 m c (Proc.devRef .tc main_arg0) = m ((c : Thread nD τ).loc main_arg0) :=
  start_to_W5 m c main_arg0 (by decide) (by decide) (by decide) (by decide) (by decide)
theorem W5_arg1 (c : Dev nD) : W5 m c (Proc.devRef .tc main_arg1) = m ((c : Thread nD τ).loc main_arg1) :=
  start_to_W5 m c main_arg1 (by decide) (by decide) (by decide) (by decide) (by decide)
theorem W5_arg2 (c : Dev nD) : W5 m c (Proc.devRef .tc main_arg2) = m ((c : Thread nD τ).loc main_arg2) :=
  start_to_W5 m c main_arg2 (by decide) (by decide) (by decide) (by decide) (by decide)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What the run leaves: each result buffer at the last valuation, the arguments as launched. -/
theorem run : θ_run defs (onTc (τ := τ) (main (F := F))) ⟨m, fun _ => 0, ρ⟩ (fun r => (∀ c : Dev nD,
      r.2.mem ((c : Thread nD τ).loc main_v8) = W5 m c (Proc.devRef .tc main_v8)
      ∧ r.2.mem ((c : Thread nD τ).loc main_v9) = W5 m c (Proc.devRef .tc main_v9)
      ∧ r.2.mem ((c : Thread nD τ).loc main_v3) = W5 m c (Proc.devRef .tc main_v3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c =>
    ⟨h.1 c _ (mem_uc main_v8 (by decide)), h.1 c _ (mem_uc main_v9 (by decide)), h.1 c _ (mem_uc main_v3 (by decide)),
      (h.1 c _ (mem_uc main_arg0 (by decide))).trans (W5_arg0 m c),
      (h.1 c _ (mem_uc main_arg1 (by decide))).trans (W5_arg1 m c),
      (h.1 c _ (mem_uc main_arg2 (by decide))).trans (W5_arg2 m c)⟩, h.2⟩) (run_main m ρ)

/-- The frame. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2.2.2, h.2⟩) (run m ρ)

end Cert.KernelIdeal.Own

end
-- ==== Proof.Exponent.lean ====
/-
  The exponent of a scale, over the extended reals: the number of powers of two that a value reaches, found by a
  count or by a bisection over the exponent bits of a float, and the two powers of two made of it.
-/
module

public import Idealize.ShloMosaic.PureOps.Ideal
public import Idealize.ShloMosaic.PureOps.Ideal.Laws
public import Idealize.ShloMosaic.Lib.IndicatorCount
public import Mathlib.Data.Nat.Find
public import Mathlib.Analysis.SpecialFunctions.Pow.Real

@[expose] public section

noncomputable section

namespace Cert.Own

open Idealize.ShloMosaic

/-- The power of two whose float has the exponent bits `c`. -/
def power (c : ℕ) : ℝ := (2 : ℝ) ^ ((c : ℤ) - 127)

theorem power_mono {a b : ℕ} (h : a ≤ b) : power a ≤ power b :=
  zpow_le_zpow_right₀ (by norm_num) (by omega)

theorem power_lt {a b : ℕ} (h : a < b) : power a < power b :=
  zpow_lt_zpow_right₀ (by norm_num) (by omega)

/-- The number of the powers `2 ^ -126`, …, `2 ^ 127` that `v` reaches, and 255 for infinity. -/
def level (v : EReal) : ℕ := if v = ⊤ then 255 else Nat.findGreatest (fun c => c = 0 ∨ (power c : EReal) ≤ v) 254

theorem level_le (v : EReal) : level v ≤ 255 := by
  unfold level
  split
  · exact le_refl _
  · exact (Nat.findGreatest_le _).trans (by norm_num)

theorem power_le_iff (v : EReal) (c : ℕ) (h1 : 1 ≤ c) (h2 : c ≤ 254) : (power c : EReal) ≤ v ↔ c ≤ level v := by
  unfold level
  split
  case isTrue h => subst h; exact ⟨fun _ => by omega, fun _ => le_top⟩
  case isFalse h =>
    constructor
    · intro hv
      exact Nat.le_findGreatest h2 (Or.inr hv)
    · intro hc
      have hs := Nat.findGreatest_spec (P := fun c => c = 0 ∨ (power c : EReal) ≤ v) (Nat.zero_le 254) (Or.inl rfl)
      rcases hs with h0 | h0
      · omega
      · exact (EReal.coe_le_coe_iff.mpr (power_mono hc)).trans h0

theorem top_le_iff (v : EReal) : (⊤ : EReal) ≤ v ↔ 255 ≤ level v := by
  rw [_root_.top_le_iff]
  unfold level
  split
  case isTrue h => exact ⟨fun _ => le_refl _, fun _ => h⟩
  case isFalse h =>
    refine ⟨fun h' => absurd h' h, fun h' => ?_⟩
    have := Nat.findGreatest_le (P := fun c => c = 0 ∨ (power c : EReal) ≤ v) 254
    omega

/-- The pattern with exponent bits `c` alone. -/
def pattern (c : ℕ) : BitVec 32 := BitVec.ofNat 32 c <<< 23

theorem pattern_fields : ∀ c : Fin 256, (pattern c).extractLsb' 31 1 = 0#1 ∧ ((pattern c).extractLsb' 23 8).toNat = c.val
    ∧ ((pattern c).extractLsb' 0 23).toNat = 0 := by decide +kernel

theorem ofBits_pattern (c : ℕ) (h1 : 1 ≤ c) (h2 : c ≤ 254) : Ideal.ofBits .f32 (pattern c) = (power c : EReal) := by
  obtain ⟨f1, f2, f3⟩ := pattern_fields ⟨c, by omega⟩
  dsimp only at f1 f2 f3
  show Ideal.ieee 8 23 (pattern c) = _
  unfold Ideal.ieee
  simp only [Nat.reduceAdd, f1, f2, f3]
  rw [if_neg (by omega), if_neg (by omega)]
  refine EReal.coe_eq_coe_iff.mpr ?_
  unfold power
  rw [show ((c : ℤ) - 127) = 23 + ((c : ℤ) - (2 ^ (8 - 1) - 1) - 23) by norm_num, zpow_add₀ (by norm_num)]
  norm_num

theorem ofBits_pattern_top : Ideal.ofBits .f32 (pattern 255) = ⊤ := by
  obtain ⟨f1, f2, f3⟩ := pattern_fields 255
  show Ideal.ieee 8 23 (pattern 255) = _
  unfold Ideal.ieee
  simp only [Nat.reduceAdd]
  rw [show ((255 : Fin 256).val) = 255 from rfl] at f1 f2 f3
  simp only [f1, f2, f3]
  norm_num

/-- A value reaches the float of exponent bits `c` when `c` is at most its level. -/
theorem pattern_le_iff (v : EReal) (c : ℕ) (h1 : 1 ≤ c) (h2 : c ≤ 255) : Ideal.ofBits .f32 (pattern c) ≤ v ↔ c ≤ level v := by
  rcases Nat.lt_or_ge c 255 with h | h
  · rw [ofBits_pattern c h1 (by omega)]; exact power_le_iff v c h1 (by omega)
  · obtain rfl : c = 255 := by omega
    rw [ofBits_pattern_top]; exact top_le_iff v

/-! ## The bisection -/

/-- One step of the bisection: the bit is put in when `v` reaches the float with it. -/
def bisect (v : EReal) (bits bit : BitVec 32) : BitVec 32 :=
  Scalar.select (FloatOps.cmpf (F := Ideal) (φ := .f32) .oge v (FloatOps.ofBits (F := Ideal) .f32 (IntOp.ori bits bit)))
    (IntOp.ori bits bit) bits

theorem bits_or : ∀ b : Fin 8, ∀ j : Fin 256,
    IntOp.ori (pattern (j.val / 2 ^ (b.val + 1) * 2 ^ (b.val + 1))) (pattern (2 ^ b.val))
        = pattern (j.val / 2 ^ (b.val + 1) * 2 ^ (b.val + 1) + 2 ^ b.val)
      ∧ j.val / 2 ^ b.val * 2 ^ b.val
        = (if j.val / 2 ^ (b.val + 1) * 2 ^ (b.val + 1) + 2 ^ b.val ≤ j.val
            then j.val / 2 ^ (b.val + 1) * 2 ^ (b.val + 1) + 2 ^ b.val else j.val / 2 ^ (b.val + 1) * 2 ^ (b.val + 1))
      ∧ j.val / 2 ^ (b.val + 1) * 2 ^ (b.val + 1) + 2 ^ b.val ≤ 255 := by decide +kernel

/-- A step keeps the invariant: the bits found so far are the level's own. -/
theorem bisect_step (v : EReal) (b : ℕ) (hb : b < 8) (bits bit : BitVec 32) (hbit : bit = pattern (2 ^ b))
    (hbits : bits = pattern (level v / 2 ^ (b + 1) * 2 ^ (b + 1))) :
    bisect v bits bit = pattern (level v / 2 ^ b * 2 ^ b) := by
  subst hbit hbits
  obtain ⟨h1, h2, h3⟩ := bits_or ⟨b, hb⟩ ⟨level v, by have := level_le v; omega⟩
  dsimp only at h1 h2 h3
  unfold bisect
  rw [h1, h2]
  have hpos : 1 ≤ 2 ^ b := Nat.one_le_two_pow
  have key := pattern_le_iff v (level v / 2 ^ (b + 1) * 2 ^ (b + 1) + 2 ^ b) (by omega) h3
  by_cases h : level v / 2 ^ (b + 1) * 2 ^ (b + 1) + 2 ^ b ≤ level v
  · rw [if_pos h]
    show (if BitVec.ofBool (decide (Ideal.ofBits .f32 _ ≤ v)) = 1 then _ else _) = _
    rw [decide_eq_true (key.mpr h)]; rfl
  · rw [if_neg h]
    show (if BitVec.ofBool (decide (Ideal.ofBits .f32 _ ≤ v)) = 1 then _ else _) = _
    rw [decide_eq_false (fun h' => h (key.mp h'))]; rfl

/-- The eight steps find the level. -/
theorem bisect_all (v : EReal) :
    bisect v (bisect v (bisect v (bisect v (bisect v (bisect v (bisect v (bisect v 0#32 1073741824#32) 536870912#32)
      268435456#32) 134217728#32) 67108864#32) 33554432#32) 16777216#32) 8388608#32 = pattern (level v) := by
  have h := level_le v
  have e := bisect_step v 0 (by norm_num) _ 8388608#32 (by decide)
    (bisect_step v 1 (by norm_num) _ 16777216#32 (by decide)
    (bisect_step v 2 (by norm_num) _ 33554432#32 (by decide)
    (bisect_step v 3 (by norm_num) _ 67108864#32 (by decide)
    (bisect_step v 4 (by norm_num) _ 134217728#32 (by decide)
    (bisect_step v 5 (by norm_num) _ 268435456#32 (by decide)
    (bisect_step v 6 (by norm_num) _ 536870912#32 (by decide)
    (bisect_step v 7 (by norm_num) 0#32 1073741824#32 (by decide)
      (by rw [Nat.div_eq_of_lt (by omega : level v < 2 ^ (7 + 1)), Nat.zero_mul]; decide))))))))
  rw [e]; simp

/-! ## The exponent and its two powers -/

/-- The exponent of the scale at a level: none of the powers reached, or infinity, is exponent 0. -/
def expo (j : ℕ) : ℤ := if j = 0 ∨ j = 255 then 0 else (j : ℤ) - 126

/-- The exponent as a word. -/
def expoWord (j : ℕ) : BitVec 32 := if j = 0 ∨ j = 255 then 0#32 else BitVec.ofNat 32 j - 126#32

/-- The scale `2 ^ e`, -/
def scale (j : ℕ) : EReal := (((2 : ℝ) ^ expo j : ℝ) : EReal)
/-- and its reciprocal `2 ^ -e`. -/
def inv (j : ℕ) : EReal := (((2 : ℝ) ^ (-expo j) : ℝ) : EReal)

theorem expo_words : ∀ j : Fin 256, (expoWord j).toInt = expo j ∧ (IntOp.subi 0#32 (expoWord j)).toInt = -expo j := by
  decide +kernel

/-- The exponent read off the bits found. -/
theorem expo_bits : ∀ j : Fin 256,
    Scalar.select (IntOp.ori (IntOp.cmpi .eq (IntOp.andi (IntOp.shrsi .vector (pattern j) 23#32) 255#32) 0#32)
        (IntOp.cmpi .eq (IntOp.andi (IntOp.shrsi .vector (pattern j) 23#32) 255#32) 255#32)) 0#32
      (IntOp.subi (IntOp.andi (IntOp.shrsi .vector (pattern j) 23#32) 255#32) 126#32) = expoWord j := by
  decide +kernel

/-- The words the two powers are made of are the patterns of the exponents above the bias. -/
theorem power_words : ∀ j : Fin 256, (j.val ≤ 246 ∨ j.val = 255) →
    (IntOp.shli .vector (IntOp.addi (expoWord j) 127#32) 23#32 = pattern (expo j + 127).toNat
      ∧ IntOp.shli .vector (IntOp.addi (IntOp.subi 0#32 (expoWord j)) 127#32) 23#32 = pattern (-expo j + 127).toNat
      ∧ 1 ≤ expo j + 127 ∧ expo j + 127 ≤ 254 ∧ 1 ≤ -expo j + 127 ∧ -expo j + 127 ≤ 254) := by
  decide +kernel

theorem power_expo (e : ℤ) (h1 : 1 ≤ e + 127) (h2 : e + 127 ≤ 254) :
    Ideal.ofBits .f32 (pattern (e + 127).toNat) = (((2 : ℝ) ^ e : ℝ) : EReal) := by
  rw [ofBits_pattern _ (by omega) (by omega)]
  unfold power
  rw [show (((e + 127).toNat : ℕ) : ℤ) - 127 = e by omega]

/-- The scale and its reciprocal from the words, for a level in range. -/
theorem ofBits_scale (j : ℕ) (h : j ≤ 246 ∨ j = 255) :
    Ideal.ofBits .f32 (IntOp.shli .vector (IntOp.addi (expoWord j) 127#32) 23#32) = scale j := by
  obtain ⟨e1, -, a, b, -, -⟩ := power_words ⟨j, by omega⟩ h
  dsimp only at e1 a b
  rw [e1]; exact power_expo _ a b

theorem ofBits_inv (j : ℕ) (h : j ≤ 246 ∨ j = 255) :
    Ideal.ofBits .f32 (IntOp.shli .vector (IntOp.addi (IntOp.subi 0#32 (expoWord j)) 127#32) 23#32) = inv j := by
  obtain ⟨-, e1, -, -, a, b⟩ := power_words ⟨j, by omega⟩ h
  dsimp only at e1 a b
  rw [e1]; exact power_expo _ a b

theorem exp2_int (w : BitVec 32) : FloatOps.exp2 (F := Ideal) (φ := .f32) (FloatOps.sitofp .f32 w) = (((2 : ℝ) ^ w.toInt : ℝ) : EReal) := by
  show Ideal.exp2 ((w.toInt : ℝ) : EReal) = _
  show ((Real.rpow 2 (w.toInt : ℝ) : ℝ) : EReal) = _
  congr 1
  exact Real.rpow_intCast 2 w.toInt

/-- The scale and its reciprocal as powers of the exponent word. -/
theorem exp2_scale (j : ℕ) (h : j ≤ 255) : FloatOps.exp2 (F := Ideal) (φ := .f32) (FloatOps.sitofp .f32 (expoWord j)) = scale j := by
  rw [exp2_int]; unfold scale; rw [(expo_words ⟨j, by omega⟩).1]

theorem exp2_inv (j : ℕ) (h : j ≤ 255) :
    FloatOps.exp2 (F := Ideal) (φ := .f32) (FloatOps.sitofp .f32 (IntOp.subi 0#32 (expoWord j))) = inv j := by
  rw [exp2_int]; unfold inv; rw [(expo_words ⟨j, by omega⟩).2]

/-! ## The count -/

theorem count_word : ∀ k : Fin 254, (IntOp.subi (BitVec.ofNat 32 k.val) 126#32).toInt = ((k.val + 1 : ℕ) : ℤ) - 127 := by
  decide +kernel

theorem reached_iff (v : EReal) (k : Fin 254) :
    FloatOps.exp2 (F := Ideal) (φ := .f32) (FloatOps.sitofp .f32 (IntOp.subi (BitVec.ofNat 32 k.val) 126#32)) ≤ v ↔ k.val + 1 ≤ level v := by
  rw [exp2_int, count_word]
  exact power_le_iff v (k.val + 1) (by omega) (by omega)

theorem count_card : ∀ j : Fin 256, (Finset.univ.filter fun k : Fin 254 => k.val + 1 ≤ j.val).card = min j.val 254 := by
  decide +kernel

/-- The count of the powers reached is the level, but for infinity. -/
theorem count_fold (v : EReal) :
    Finset.univ.fold IntOp.addi (0#32) (fun k : Fin 254 => BitVec.setWidth 32 (BitVec.ofBool (decide
      (FloatOps.exp2 (F := Ideal) (φ := .f32) (FloatOps.sitofp .f32 (IntOp.subi (BitVec.ofNat 32 k.val) 126#32)) ≤ v))))
      = BitVec.ofNat 32 (min (level v) 254) := by
  rw [IndicatorCount.fold_addi_setWidth_eq_card]
  congr 1
  rw [← count_card ⟨level v, by have := level_le v; omega⟩]
  congr 1
  ext k
  simp only [Finset.mem_filter, Finset.mem_univ, true_and]
  rw [← reached_iff v k]
  by_cases h : FloatOps.exp2 (F := Ideal) (φ := .f32) (FloatOps.sitofp .f32 (IntOp.subi (BitVec.ofNat 32 k.val) 126#32)) ≤ v
  · simp [h]
  · simp [h]

/-- The exponent read off the count. -/
theorem count_words : ∀ j : Fin 256,
    Scalar.select (IntOp.ori (IntOp.cmpi .eq (BitVec.ofNat 32 (min j.val 254)) 0#32) (BitVec.ofBool (decide (j.val = 255)))) 0#32
      (IntOp.subi (BitVec.ofNat 32 (min j.val 254)) 126#32) = expoWord j := by
  decide +kernel

end Cert.Own

end
-- ==== Proof.Peak.lean ====
/-
  The largest absolute value of an array, over the extended reals: known by its upper bounds, however the maximum is
  taken.
-/
module

public import proofs.«01_k».proof.Proof.Exponent
public import Idealize.ShloMosaic.PureOps

@[expose] public section

noncomputable section

namespace Cert.Own

open Idealize.ShloMosaic

/-- The largest absolute value. -/
def peak {s : Shape} (X : s.Idx → EReal) : EReal := Finset.univ.sup fun i => max (X i) (-(X i))

theorem peak_le_iff {s : Shape} (X : s.Idx → EReal) (c : EReal) : peak X ≤ c ↔ ∀ i, max (X i) (-(X i)) ≤ c := by
  unfold peak; simp only [Finset.sup_le_iff, Finset.mem_univ, true_imp_iff]

/-- Every element at most `c`. -/
abbrev Below {s : Shape} (X : s.Idx → EReal) (c : EReal) : Prop := ∀ i, X i ≤ c

/-- Every element at most `c` in absolute value. -/
abbrev Within {s : Shape} (X : s.Idx → EReal) (c : EReal) : Prop := ∀ i, max (X i) (-(X i)) ≤ c

theorem abs_nonneg (x : EReal) : 0 ≤ max x (-x) := by
  rcases le_total 0 x with h | h
  · exact h.trans (le_max_left _ _)
  · exact (EReal.neg_nonneg.mpr h).trans (le_max_right _ _)

/-- The scale factor of the formats' largest value, the float nearest 1/448. -/
abbrev perMax : EReal := Ideal.ofBits .f32 0x3B124925#32

/-- A maximum-reduction is bounded by what bounds its initial value and the elements reduced. -/
theorem reduce_le_iff {φ : FTy} {s t : Shape} {axes : List (Fin s.rank)} (src : FVec Ideal s φ) (acc : BitVec φ.bits) (h : s.Reduces axes t)
    (hφ : FKind.Formats φ) (hacc : acc = FKind.maximumf.neutral φ hφ) (j : t.Idx) (c : EReal) :
    (multiReduction .maximumf axes t src acc h hφ hacc j : EReal) ≤ c
      ↔ (FloatOps.ofBits (F := Ideal) φ acc : EReal) ≤ c ∧ ∀ i, h.drop i = j → (src i : EReal) ≤ c := by
  rw [multiReduction_maximumf_eq_fold]
  refine (Finset.fold_max_le (s := Finset.univ.filter fun i => h.drop i = j) (f := src) (b := (FloatOps.ofBits (F := Ideal) φ acc : EReal)) c).trans ?_
  simp only [Finset.mem_filter, Finset.mem_univ, true_and]

theorem ofBits_neg_top : Ideal.ofBits .f32 0xFF800000#32 = ⊥ := by
  show Ideal.ieee 8 23 0xFF800000#32 = _
  unfold Ideal.ieee
  simp only [Nat.reduceAdd]
  rw [show (0xFF800000#32 : BitVec 32).extractLsb' 31 1 = 1#1 by decide, show ((0xFF800000#32 : BitVec 32).extractLsb' 23 8).toNat = 255 by decide,
    show ((0xFF800000#32 : BitVec 32).extractLsb' 0 23).toNat = 0 by decide]
  norm_num

theorem formats : FKind.Formats .f32 := .inl rfl

theorem neutral_max : (0xFF800000#32 : BitVec 32) = FKind.maximumf.neutral .f32 formats := rfl

theorem neutral_add : (0#32 : BitVec 32) = IKind.add.neutral := rfl

/-- A maximum taken down the columns and then along the row left is bounded by what bounds every element. -/
theorem two_step_le_iff {s t u v : Shape} {a1 : List (Fin s.rank)} {a2 : List (Fin u.rank)} (src : FVec Ideal s .f32)
    (h1 : s.Reduces a1 t) (hc : t.ShapeCasts u) (h2 : u.Reduces a2 v) (hφ : FKind.Formats .f32)
    (hacc : (0xFF800000#32 : BitVec 32) = FKind.maximumf.neutral .f32 hφ) (j : v.Idx) (hv : ∀ k : v.Idx, k = j) (c : EReal) :
    (multiReduction .maximumf a2 v (shapeCast u (multiReduction .maximumf a1 t src 0xFF800000#32 h1 hφ hacc) hc) 0xFF800000#32 h2 hφ hacc j : EReal) ≤ c
      ↔ ∀ i, (src i : EReal) ≤ c := by
  have hb : ((FloatOps.ofBits (F := Ideal) .f32 0xFF800000#32 : Ideal .f32) : EReal) ≤ c := by
    show Ideal.ofBits .f32 0xFF800000#32 ≤ c
    rw [ofBits_neg_top]; exact bot_le
  rw [reduce_le_iff]
  constructor
  · rintro ⟨-, h⟩ i
    have h' := h ((Shape.reshapeEquiv hc).symm (h1.drop i)) (hv _)
    unfold shapeCast at h'
    rw [Equiv.apply_symm_apply, reduce_le_iff] at h'
    exact h'.2 i rfl
  · refine fun h => ⟨hb, fun i _ => ?_⟩
    unfold shapeCast
    rw [reduce_le_iff]
    exact ⟨hb, fun i _ => h i⟩

/-- The values the maximum can take when every element is a bf16 number, infinite or at most the format's largest. -/
theorem ofBits_bf16_max : Ideal.ofBits .bf16 0x7F7F#16 = ((255 * 2 ^ 120 : ℝ) : EReal) := by
  show Ideal.ieee 8 7 0x7F7F#16 = _
  unfold Ideal.ieee
  simp only [Nat.reduceAdd]
  rw [show (0x7F7F#16 : BitVec 16).extractLsb' 15 1 = 0#1 by decide, show ((0x7F7F#16 : BitVec 16).extractLsb' 7 8).toNat = 254 by decide,
    show ((0x7F7F#16 : BitVec 16).extractLsb' 0 7).toNat = 127 by decide]
  norm_num

theorem ofBits_bf16_top : Ideal.ofBits .bf16 0x7F80#16 = ⊤ := by
  show Ideal.ieee 8 7 0x7F80#16 = _
  unfold Ideal.ieee
  simp only [Nat.reduceAdd]
  rw [show (0x7F80#16 : BitVec 16).extractLsb' 15 1 = 0#1 by decide, show ((0x7F80#16 : BitVec 16).extractLsb' 7 8).toNat = 255 by decide,
    show ((0x7F80#16 : BitVec 16).extractLsb' 0 7).toNat = 0 by decide]
  norm_num

theorem perMax_eq : perMax = ((9586981 * (2 : ℝ) ^ (-32 : ℤ) : ℝ) : EReal) := by
  show Ideal.ieee 8 23 0x3B124925#32 = _
  unfold Ideal.ieee
  simp only [Nat.reduceAdd]
  rw [show (0x3B124925#32 : BitVec 32).extractLsb' 31 1 = 0#1 by decide, show ((0x3B124925#32 : BitVec 32).extractLsb' 23 8).toNat = 118 by decide,
    show ((0x3B124925#32 : BitVec 32).extractLsb' 0 23).toNat = 1198373 by decide]
  norm_num

/-- The level of the largest absolute value over the formats' largest. -/
def levelOf {s : Shape} (X : s.Idx → EReal) : ℕ := level (peak X * perMax)

/-- An array of numbers within bf16, or infinite. -/
def InRange {s : Shape} (X : s.Idx → EReal) : Prop :=
  ∀ i, max (X i) (-(X i)) ≤ Ideal.ofBits .bf16 0x7F7F#16 ∨ max (X i) (-(X i)) = Ideal.ofBits .bf16 0x7F80#16

/-- For such an array the level leaves room for the reciprocal's exponent, or is infinity's. -/
theorem levelOf_range {s : Shape} (X : s.Idx → EReal) (h : InRange X) : levelOf X ≤ 246 ∨ levelOf X = 255 := by
  unfold levelOf
  have hp : (0 : EReal) < perMax := by
    rw [perMax_eq]; exact EReal.coe_pos.mpr (by positivity)
  by_cases ht : ∃ i, max (X i) (-(X i)) = ⊤
  · obtain ⟨i, hi⟩ := ht
    have : peak X = ⊤ := _root_.top_le_iff.mp (hi ▸ (peak_le_iff X _).mp le_rfl i)
    rw [this, EReal.top_mul_of_pos hp]
    exact Or.inr (by simp [level])
  · left
    have hle : peak X ≤ ((255 * 2 ^ 120 : ℝ) : EReal) := by
      rw [peak_le_iff]
      intro i
      rcases h i with h' | h'
      · rw [ofBits_bf16_max] at h'; exact h'
      · rw [ofBits_bf16_top] at h'; exact absurd ⟨i, h'⟩ ht
    have hv : peak X * perMax ≤ ((255 * 2 ^ 120 : ℝ) : EReal) * perMax := mul_le_mul_of_nonneg_right hle hp.le
    rw [perMax_eq, ← EReal.coe_mul] at hv
    rw [← perMax_eq] at hv
    by_contra hc
    have h247 : 247 ≤ level (peak X * perMax) := by omega
    have h2 := (power_le_iff (peak X * perMax) 247 (by norm_num) (by norm_num)).mpr h247
    have h3 := EReal.coe_le_coe_iff.mp (h2.trans hv)
    unfold power at h3
    norm_num at h3

theorem level_zero : level 0 = 0 := by
  unfold level
  rw [if_neg (by simp), Nat.findGreatest_eq_zero_iff]
  intro n hn _ h
  rcases h with h | h
  · omega
  · have : (0 : ℝ) < power n := by unfold power; positivity
    exact absurd (EReal.coe_le_coe_iff.mp (by simpa using h : ((power n : ℝ) : EReal) ≤ ((0 : ℝ) : EReal))) (not_le.mpr this)

end Cert.Own

end
-- ==== Proof.KernelIdeal.Scale.lean ====
/-
  The kernel's maximum: what bounds its scratch after each block is what bounds the blocks folded into it.
-/
module

public import proofs.«01_k».proof.Proof.KernelIdeal.AmaxRegion
public import proofs.«01_k».proof.Proof.Peak
public import Idealize.ShloMosaic.Lib.Pointwise

@[expose] public section

set_option maxRecDepth 16384

noncomputable section

namespace Cert.KernelIdeal.Own

open Cert.KernelIdeal Cert.KernelIdeal.Gen Cert.Own
open Idealize.ShloMosaic Idealize.ShloMosaic.TcCoe

/-! ## The scratch -/

theorem pay2_le_iff (a b : FVec Ideal S16x3584 .bf16) (c : EReal) :
    Below (s := S16x3584) (k0_pay2 (F := Ideal) a b) c ↔ Below (s := S16x3584) a c ∧ Within (s := S16x3584) b c := by
  unfold Below Within
  rw [← forall_and]
  refine forall_congr' fun i => ?_
  have e : k0_pay2 (F := Ideal) a b i = (max (a i : EReal) (max (b i : EReal) (-(b i : EReal))) : EReal) := by
    unfold k0_pay2; rw [shapeCast_self]; rfl
  rw [e]; exact max_le_iff

/-- The bound of what a block's loop has folded before trip `n`. -/
theorem rowMax_le_iff (x : FVec Ideal S1024x3584 .bf16) (acc : FVec Ideal S16x3584 .bf16) (c : EReal) : ∀ n : ℕ, n ≤ k0_t1_loop.trips →
    (Below (s := S16x3584) (rowMax (F := Ideal) x acc n) c ↔ Below (s := S16x3584) acc c
      ∧ ∀ k : Fin k0_t1_loop.trips, k.val < n → Within (s := S16x3584) (rows (F := Ideal) x k) c)
  | 0, _ => by simp [rowMax]
  | n + 1, h => by
    have ih := rowMax_le_iff x acc c n (by omega)
    unfold rowMax
    rw [dif_pos (by omega : n < k0_t1_loop.trips)]
    refine (pay2_le_iff _ _ c).trans ?_
    rw [ih]
    constructor
    · rintro ⟨⟨h1, h2⟩, h3⟩
      refine ⟨h1, fun k hk => ?_⟩
      rcases Nat.lt_or_ge k.val n with hkn | hkn
      · exact h2 k hkn
      · have e : k = ⟨n, h⟩ := Fin.ext (by show k.val = n; omega)
        rw [e]; exact h3
    · rintro ⟨h1, h2⟩
      exact ⟨⟨h1, fun k hk => h2 k (by omega)⟩, h2 ⟨n, by omega⟩ (Nat.lt_succ_self n)⟩

theorem off1_eq : ∀ k : Fin k0_t1_loop.trips, k0_off1 k = ![16 * k.val, 0] := by decide +kernel

theorem trips_eq : k0_t1_loop.trips = 64 := by decide +kernel

/-- The rows of all the trips are the block's. -/
theorem rows_all (x : FVec Ideal S1024x3584 .bf16) (P : EReal → Prop) :
    (∀ k : Fin k0_t1_loop.trips, k.val < k0_t1_loop.trips → ∀ i, P (rows (F := Ideal) x k i)) ↔ ∀ i : S1024x3584.Idx, P (x i) := by
  constructor
  · intro h i
    have h0 : (i 0).val < 1024 := (i 0).isLt
    have h1 : (i 1).val < 3584 := (i 1).isLt
    have ht := trips_eq
    have hk : (i 0).val / 16 < k0_t1_loop.trips := by omega
    obtain ⟨y, y0, y1⟩ : ∃ y : S16x3584.Idx, (y 0).val = (i 0).val % 16 ∧ (y 1).val = (i 1).val :=
      ⟨ix2 ⟨(i 0).val % 16, by omega⟩ ⟨(i 1).val, h1⟩, rfl, rfl⟩
    have e : (rows (F := Ideal) x ⟨(i 0).val / 16, hk⟩ y : EReal) = x i :=
      View.ld_unit_apply_of (S := S1024x3584) (Val := Elt Ideal) (e := .bf16) x _ _ _ y i (fun a => by
        refine Eq.trans ?_ (congrArg (· + (y a).val) (congrFun (off1_eq ⟨(i 0).val / 16, hk⟩) a).symm)
        match a with
        | ⟨0, _⟩ => show (i 0).val = 16 * ((i 0).val / 16) + (y 0).val; omega
        | ⟨1, _⟩ => show (i 1).val = 0 + (y 1).val; omega)
    rw [← e]; exact h _ hk y
  · intro h k _ i
    exact h _

theorem folded_le_iff (x : FVec Ideal S1024x3584 .bf16) (acc : FVec Ideal S16x3584 .bf16) (c : EReal) :
    Below (s := S16x3584) (folded (F := Ideal) x acc) c ↔ Below (s := S16x3584) acc c ∧ Within (s := S1024x3584) x c := by
  unfold folded k0_pay3
  rw [shapeCast_self, rowMax_le_iff x acc c _ le_rfl, rows_all x (fun y => max y (-y) ≤ c)]

variable (V : (c : Dev nD) → (b : Ref sig .tc) → Buf (Elt Ideal) ((c : Thread nD τ).loc b))

/-- The scratch after point `n` is bounded by what bounds the blocks up to it. -/
theorem accAt_le_iff (c : Dev nD) (b : EReal) : ∀ (n : ℕ) (h : n < cfg0.N),
    (Below (s := S16x3584) (accAt V c n h) b ↔ 0 ≤ b
      ∧ ∀ t : Fin cfg0.N, t.val ≤ n → Within (s := S1024x3584) (blk0 V c 0 t) b)
  | 0, h => by
    unfold accAt
    rw [folded_le_iff]
    refine and_congr ?_ ?_
    · have e : ∀ i : S16x3584.Idx, (k0_pay1 (F := Ideal) i : EReal) = 0 := fun i => by
        unfold k0_pay1
        rw [shapeCast_self]
        exact Ideal.ofBits_zero_bf16
      exact ⟨fun h' => by rw [← e (ix2 0 0)]; exact h' _, fun h' i => by rw [e]; exact h'⟩
    · refine ⟨fun h' t ht => ?_, fun h' => h' ⟨0, h⟩ le_rfl⟩
      obtain rfl : t = ⟨0, h⟩ := Fin.ext (by simpa using ht)
      exact h'
  | n + 1, h => by
    unfold accAt
    rw [folded_le_iff, accAt_le_iff c b n, and_assoc]
    refine and_congr Iff.rfl ⟨?_, fun h' => ⟨fun t ht => h' t (by omega), h' ⟨n + 1, h⟩ le_rfl⟩⟩
    rintro ⟨h1, h2⟩ t ht
    rcases Nat.lt_or_ge t.val (n + 1) with hn | hn
    · exact h1 t (by omega)
    · obtain rfl : t = ⟨n + 1, h⟩ := Fin.ext (by show t.val = n + 1; omega)
      exact h2

end Cert.KernelIdeal.Own

end
-- ==== Proof.KernelIdeal.Exponent.lean ====
/-
  The kernel's scale: its scratch holds the running maximum, and the exponent bits found by the bisection are those of
  the array's level.
-/
module

public import proofs.«01_k».proof.Proof.KernelIdeal.AmaxRegion
public import proofs.«01_k».proof.Proof.Peak
public import Idealize.ShloMosaic.Lib.Pointwise

@[expose] public section

set_option maxRecDepth 16384

noncomputable section

namespace Cert.KernelIdeal.Own

open Cert.KernelIdeal Cert.KernelIdeal.Gen Cert.Own
open Idealize.ShloMosaic Idealize.ShloMosaic.TcCoe

/-- The largest element of the scratch as the kernel takes it. -/
def top (a : FVec Ideal S16x3584 .bf16) : FVec Ideal S1 .f32 :=
  multiReduction .maximumf [1] S1 (shapeCast S1x3584
    (multiReduction .maximumf [0] S3584 (extf .f32 a bitsLt_bf16_f32 : FVec Ideal S16x3584 .f32) 0xFF800000#32 reduces_S16x3584_S3584 formats neutral_max)
    shapeCasts_S3584_S1x3584) 0xFF800000#32 reduces_S1x3584_S1 formats neutral_max

theorem one_index (j k : S1.Idx) : k = j := by
  funext a
  exact Fin.ext (by have h1 : (k a).val < S1.size a := (k a).isLt; have h2 : (j a).val < S1.size a := (j a).isLt
                    have hs : S1.size a = 1 := by match a with | ⟨0, _⟩ => rfl
                    omega)

theorem top_le_iff (a : FVec Ideal S16x3584 .bf16) (j : S1.Idx) (c : EReal) : (top a j : EReal) ≤ c ↔ ∀ i, (a i : EReal) ≤ c := by
  unfold top
  rw [two_step_le_iff _ _ _ _ _ _ _ (one_index j)]
  rfl

theorem pay7_eq (a : FVec Ideal S16x3584 .bf16) : k0_pay7 (F := Ideal) a
    = mulf (broadcastTo S8x128 (shapeCast S1x1 (shapeCast S1x1 (top a) shapeCasts_S1_S1x1) shapeCasts_S1x1_S1x1) broadcasts_S1x1_S8x128)
      (broadcast S8x128 (Scalar.ofBits .f32 0x3B124925#32)) := rfl

/-- The largest element over the formats' largest, at a lane. -/
abbrev quot (a : FVec Ideal S16x3584 .bf16) (i : S8x128.Idx) : EReal := k0_pay7 (F := Ideal) a i

theorem quot_eq (a : FVec Ideal S16x3584 .bf16) (i : S8x128.Idx) (t : EReal) (ht : ∀ j, top a j = t) : quot a i = t * perMax := by
  unfold quot
  rw [pay7_eq]
  generalize top a = w at ht
  have e1 : ∀ k, (shapeCast S1x1 w shapeCasts_S1_S1x1 k : EReal) = t := fun k => ht _
  generalize shapeCast S1x1 w shapeCasts_S1_S1x1 = w1 at e1
  have e2 : ∀ k, (shapeCast S1x1 w1 shapeCasts_S1x1_S1x1 k : EReal) = t := fun k => e1 _
  generalize shapeCast S1x1 w1 shapeCasts_S1x1_S1x1 = w2 at e2
  have e3 : ∀ k, (broadcastTo S8x128 w2 broadcasts_S1x1_S8x128 k : EReal) = t := fun k => by unfold broadcastTo; exact e2 _
  generalize broadcastTo S8x128 w2 broadcasts_S1x1_S8x128 = w3 at e3
  rw [mulf_apply, e3, Ideal.mulf_def]
  rfl

/-- One step of the bisection in every lane. -/
def step (v : FVec Ideal S8x128 .f32) (w : IVec S8x128 32) (b : BitVec 32) : IVec S8x128 32 :=
  select (cmpf .oge v (bitcastToFloat .f32 (ori w (broadcast S8x128 b)))) (ori w (broadcast S8x128 b)) w

theorem step_apply (v : FVec Ideal S8x128 .f32) (w : IVec S8x128 32) (b : BitVec 32) (i : S8x128.Idx) :
    step v w b i = bisect (v i) (w i) b := rfl

/-- Seven steps. -/
def steps (v : FVec Ideal S8x128 .f32) : IVec S8x128 32 :=
  have w1 := step v (broadcast S8x128 0#32) 1073741824#32
  have w2 := step v w1 536870912#32
  have w3 := step v w2 268435456#32
  have w4 := step v w3 134217728#32
  have w5 := step v w4 67108864#32
  have w6 := step v w5 33554432#32
  step v w6 16777216#32

theorem pay8_eq (a : FVec Ideal S16x3584 .bf16) : k0_pay8 (F := Ideal) a = steps (k0_pay7 (F := Ideal) a) := rfl

/-- The exponent read off the bits found, in every lane. -/
def expoV (w : IVec S8x128 32) : IVec S8x128 32 :=
  have f := andi (shrsi w (broadcast S8x128 23#32)) (broadcast S8x128 255#32)
  select (ori (cmpi .eq f (broadcast S8x128 0#32)) (cmpi .eq f (broadcast S8x128 255#32))) (broadcast S8x128 0#32)
    (subi f (broadcast S8x128 126#32))

theorem expoV_apply (w : IVec S8x128 32) (i : S8x128.Idx) (j : ℕ) (hj : j ≤ 255) (h : w i = pattern j) : expoV w i = expoWord j := by
  rw [← expo_bits ⟨j, by omega⟩, ← h]
  rfl

theorem pay4_eq (v : FVec Ideal S8x128 .f32) (w : IVec S8x128 32) (b : BitVec 32) : k0_pay4 (F := Ideal) v w b = expoV (step v w b) := rfl

theorem exponent_apply (a : FVec Ideal S16x3584 .bf16) (i : S8x128.Idx) :
    k0_pay4 (F := Ideal) (k0_pay7 (F := Ideal) a) (k0_pay8 (F := Ideal) a) 8388608#32 i = expoWord (level (quot a i)) := by
  rw [pay4_eq, pay8_eq]
  refine expoV_apply _ i _ (level_le _) ?_
  unfold steps
  simp only [step_apply]
  exact bisect_all _

theorem scaleOf_apply (a : FVec Ideal S16x3584 .bf16) (i : S8x128.Idx) (h : level (quot a i) ≤ 246 ∨ level (quot a i) = 255) :
    (scaleOf (F := Ideal) a i : EReal) = scale (level (quot a i)) := by
  show Ideal.ofBits .f32 (IntOp.shli .vector (IntOp.addi (k0_pay4 (F := Ideal) (k0_pay7 (F := Ideal) a) (k0_pay8 (F := Ideal) a) 8388608#32 i) 127#32) 23#32) = _
  rw [exponent_apply]; exact ofBits_scale _ h

theorem invOf_apply (a : FVec Ideal S16x3584 .bf16) (i : S8x128.Idx) (h : level (quot a i) ≤ 246 ∨ level (quot a i) = 255) :
    (invOf (F := Ideal) a i : EReal) = Cert.Own.inv (level (quot a i)) := by
  show Ideal.ofBits .f32 (IntOp.shli .vector (IntOp.addi (IntOp.subi 0#32 (k0_pay4 (F := Ideal) (k0_pay7 (F := Ideal) a) (k0_pay8 (F := Ideal) a) 8388608#32 i)) 127#32) 23#32) = _
  rw [exponent_apply]; exact ofBits_inv _ h

end Cert.KernelIdeal.Own

end
-- ==== Proof.Quantize.lean ====
/-
  What both programs compute of the array flattened to rows: the scale, the codes and the product.
-/
module

public import proofs.«01_k».proof.Proof.Peak
public import Idealize.ShloMosaic.Lib.Pointwise

@[expose] public section

noncomputable section

namespace Cert.Own

open Idealize.ShloMosaic

/-- The flattened activations, the weights and the product. -/
abbrev Rows : Shape := ⟨2, ![16384, 3584]⟩
abbrev Weights : Shape := ⟨2, ![3584, 14336]⟩
abbrev Product : Shape := ⟨2, ![16384, 14336]⟩

/-- The activations and the product as the arguments and results have them, and a number alone. -/
abbrev Batch : Shape := ⟨3, ![2, 8192, 3584]⟩
abbrev Outs : Shape := ⟨3, ![2, 8192, 14336]⟩
abbrev One : Shape := ⟨0, ![]⟩

theorem batch_casts : Batch.ShapeCasts Rows := by decide
theorem batch_casts' : Rows.ShapeCasts Batch := by decide
theorem outs_casts : Product.ShapeCasts Outs := by decide

/-- The activations flattened to rows. -/
def flat (x : Batch.Idx → EReal) : Rows.Idx → EReal := shapeCast Rows x batch_casts

/-- A number clipped to the range of the codes. -/
def clip (x : EReal) : EReal := min (Ideal.ofBits .f32 0x43E00000#32) (max (Ideal.ofBits .f32 0xC3E00000#32) x)

/-- The codes: each number over the scale, clipped. -/
def codes (X : Rows.Idx → EReal) (i : Rows.Idx) : EReal := clip (X i * Cert.Own.inv (levelOf X))

/-- The product of codes and weights, scaled back. -/
def product (X : Rows.Idx → EReal) (W : Weights.Idx → EReal) (s : EReal) (i : Product.Idx) : EReal :=
  (∑ k : Fin 3584, codes X (ix2 (i 0) k) * W (ix2 k (i 1))) * (scale (levelOf X) * s)

/-- The three results of the arguments. -/
def resultY (x : Batch.Idx → EReal) (W : Weights.Idx → EReal) (s : One.Idx → EReal) : Outs.Idx → EReal :=
  shapeCast Outs (product (flat x) W (s ix0)) outs_casts
def resultCodes (x : Batch.Idx → EReal) : Batch.Idx → EReal := shapeCast Batch (codes (flat x)) batch_casts'
def resultScale (x : Batch.Idx → EReal) : One.Idx → EReal := fun _ => scale (levelOf (flat x))

end Cert.Own

end
-- ==== Proof.KernelIdeal.AmaxValues.lean ====
/-
  What the first region leaves: in every entry of its two arrays, the scale and the reciprocal scale.
-/
module

public import proofs.«01_k».proof.Proof.KernelIdeal.Scale
public import proofs.«01_k».proof.Proof.KernelIdeal.Exponent
public import proofs.«01_k».proof.Proof.KernelIdeal.Unchanged
public import proofs.«01_k».proof.Proof.Quantize

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.ShloMosaic.Pipeline (Dat Cfg Window)

section Region

variable (V : (c : Dev nD) → (b : Ref sig .tc) → Buf (Elt Ideal) ((c : Thread nD τ).loc b)) (c : Dev nD)

theorem idx0_0 : ∀ t : Fin cfg0.N, win0_0.index t = ![t.val, 0] := by decide +kernel

/-- A point's block: its 1024 rows. -/
theorem blk0_0_apply (t : Fin cfg0.N) (y : S1024x3584.Idx) (i : Rows.Idx)
    (h0 : (i 0).val = 1024 * t.val + (y 0).val) (h1 : (i 1).val = (y 1).val) :
    (blk0 V c 0 t y : EReal) = V c main_v0 i := by
  have e := idx0_0 t
  blk_ext [blk0, e, h0, h1]

/-- The maximum the last point takes is the largest absolute value of all rows. -/
theorem last_peak (h : 15 < cfg0.N) (j : S1.Idx) : (top (accAt V c 15 h) j : EReal) = peak (s := Rows) (V c main_v0) := by
  refine eq_of_forall_ge_iff fun b => ?_
  rw [top_le_iff, peak_le_iff]
  refine (accAt_le_iff V c b 15 h).trans ⟨?_, ?_⟩
  · rintro ⟨-, hb⟩ i
    have hi : (i 0).val < 16384 := (i 0).isLt
    have hq : (i 0).val / 1024 < cfg0.N := by rw [show cfg0.N = 16 from N_0]; omega
    have := hb ⟨(i 0).val / 1024, hq⟩ (by show (i 0).val / 1024 ≤ 15; omega) (ix2 ⟨(i 0).val % 1024, Nat.mod_lt _ (by decide)⟩ (i 1))
    rw [blk0_0_apply V c _ _ i (by show (i 0).val = 1024 * ((i 0).val / 1024) + (i 0).val % 1024; omega) rfl] at this
    exact this
  · intro hb
    refine ⟨(abs_nonneg _).trans (hb (ix2 0 0)), fun t _ y => ?_⟩
    have ht : t.val < 16 := Nat.lt_of_lt_of_eq t.isLt N_0
    have hy : (y 0).val < 1024 := (y 0).isLt
    rw [blk0_0_apply V c t y (ix2 ⟨1024 * t.val + (y 0).val, by omega⟩ (y 1)) rfl rfl]
    exact hb _

theorem last_level (t : Fin cfg0.N) (ht : t.val = 15) (i : S8x128.Idx) :
    level (quot (accAt V c t.val t.isLt) i) = levelOf (s := Rows) (V c main_v0) := by
  obtain ⟨n, h⟩ := t
  obtain rfl : n = 15 := ht
  rw [quot_eq _ i _ (last_peak V c h)]; rfl

/-- The first array after the region: the scale everywhere; -/
theorem arr0_1 (hr : InRange (s := Rows) (V c main_v0)) :
    (dat0 V c).arrAt 1 cfg0.N = fun _ : S8x128.Idx => scale (levelOf (s := Rows) (V c main_v0)) := by
  refine (dat0 V c).arrAt_eq_of_covers 1 _ (by decide +kernel) fun t hf y => ?_
  have ht : t.val = 15 := by
    by_contra h
    exact absurd hf (by rw [(idle0_1 t h).2]; decide)
  blk_simp
  rw [after0_1]
  have e := last_level V c t ht y
  have hl : level (quot (accAt V c t.val t.isLt) y) ≤ 246 ∨ level (quot (accAt V c t.val t.isLt) y) = 255 := by
    rw [e]; exact levelOf_range _ hr
  exact (scaleOf_apply (accAt V c t.val t.isLt) y hl).trans (congrArg scale e)

/-- the second: the reciprocal scale. -/
theorem arr0_2 (hr : InRange (s := Rows) (V c main_v0)) :
    (dat0 V c).arrAt 2 cfg0.N = fun _ : S8x128.Idx => Cert.Own.inv (levelOf (s := Rows) (V c main_v0)) := by
  refine (dat0 V c).arrAt_eq_of_covers 2 _ (by decide +kernel) fun t hf y => ?_
  have ht : t.val = 15 := by
    by_contra h
    exact absurd hf (by rw [(idle0_2 t h).2]; decide)
  blk_simp
  rw [after0_2]
  have e := last_level V c t ht y
  have hl : level (quot (accAt V c t.val t.isLt) y) ≤ 246 ∨ level (quot (accAt V c t.val t.isLt) y) = 255 := by
    rw [e]; exact levelOf_range _ hr
  exact (invOf_apply (accAt V c t.val t.isLt) y hl).trans (congrArg Cert.Own.inv e)

end Region

variable (m : (ℓ : Loc nD τ sig) → Buf (Elt Ideal) ℓ) (c : Dev nD)

/-- The arguments of a device. -/
abbrev argX : Batch.Idx → EReal := m ((c : Thread nD τ).loc main_arg0)
abbrev argW : Weights.Idx → EReal := m ((c : Thread nD τ).loc main_arg1)
abbrev argS : One.Idx → EReal := m ((c : Thread nD τ).loc main_arg2)

theorem W1_v0 : atRefs (W1 m) c main_v0 = flat (argX m c) := by
  simp only [atRefs, W1]
  unfold hostOps0
  after_results
  rfl

theorem W2_v1_0 (hr : InRange (argX m c)) :
    W2 m c (Proc.devRef .tc main_v1_0) = fun _ : S8x128.Idx => scale (levelOf (flat (argX m c))) := by
  refine (Pipeline.afterRegion_arr (dat0 (atRefs (W1 m)) c) (W1 m c) launch0.win.arr_inj 1).trans ?_
  have e := arr0_1 (atRefs (W1 m)) c
  rw [W1_v0] at e
  exact e fun _ => hr _

theorem W2_v1_1 (hr : InRange (argX m c)) :
    W2 m c (Proc.devRef .tc main_v1_1) = fun _ : S8x128.Idx => Cert.Own.inv (levelOf (flat (argX m c))) := by
  refine (Pipeline.afterRegion_arr (dat0 (atRefs (W1 m)) c) (W1 m c) launch0.win.arr_inj 2).trans ?_
  have e := arr0_2 (atRefs (W1 m)) c
  rw [W1_v0] at e
  exact e fun _ => hr _

theorem W2_arg2 : W2 m c (Proc.devRef .tc main_arg2) = argS m c :=
  (keep0 m c main_arg2 (by decide)).trans (StableHlo.after_of_writes_sub hostOps0 _ hostOps0_writes (by decide))

/-- As the second region is entered: the activations, -/
theorem W3_v0 : atRefs (W3 m) c main_v0 = flat (argX m c) :=
  ((StableHlo.after_of_writes_sub hostOps1 _ hostOps1_writes (by decide)).trans (keep0 m c main_v0 (by decide))).trans (W1_v0 m c)

/-- the weights, -/
theorem W3_arg1 : atRefs (W3 m) c main_arg1 = argW m c :=
  start_to_W3 m c main_arg1 (by decide) (by decide) (by decide)

/-- the scale of the result, -/
theorem W3_v5 (hr : InRange (argX m c)) (i : S1x1.Idx) :
    (atRefs (W3 m) c main_v5 i : EReal) = scale (levelOf (flat (argX m c))) * argS m c ix0 := by
  simp only [atRefs, W3]
  unfold hostOps1
  after_results
  rw [W2_v1_0 m c hr, W2_arg2]
  exact (Ideal.mulf_def _ _).trans (congrArg (fun k => scale (levelOf (flat (argX m c))) * argS m c k) (funext fun k => k.elim0))

/-- the reciprocal scale, -/
theorem W3_v6 (hr : InRange (argX m c)) (i : S1x1.Idx) :
    (atRefs (W3 m) c main_v6 i : EReal) = Cert.Own.inv (levelOf (flat (argX m c))) := by
  simp only [atRefs, W3]
  unfold hostOps1
  after_results
  rw [W2_v1_1 m c hr]
  rfl

/-- and the scale alone. -/
theorem W3_v3 (hr : InRange (argX m c)) : atRefs (W3 m) c main_v3 = resultScale (argX m c) := by
  simp only [atRefs, W3]
  unfold hostOps1
  after_results
  rw [W2_v1_0 m c hr]
  rfl

end Cert.KernelIdeal.Own

end
-- ==== Proof.KernelIdeal.LinearValues.lean ====
/-
  What the second region leaves: the codes of all rows, and their product with the weights scaled back.
-/
module

public import proofs.«01_k».proof.Proof.KernelIdeal.LinearRegion
public import proofs.«01_k».proof.Proof.Quantize
public import Idealize.ShloMosaic.Lib.Pointwise

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.ShloMosaic.Pipeline (Dat Cfg Window)

/-! ## The two payloads -/

theorem codes_pay_apply (s : EReal) (x : FVec Ideal S256x3584 .bf16) (y : S256x3584.Idx) :
    (k1_pay1 (F := Ideal) s x y : EReal) = clip ((x y : EReal) * s) := by
  unfold clip
  pointwise [k1_pay1]

theorem product_pay_apply (w : FVec Ideal S3584x1024 .fp8e4m3) (q : FVec Ideal S256x3584 .fp8e4m3) (s : EReal) (y : S256x1024.Idx) :
    (k1_pay2 (F := Ideal) w q s y : EReal) = (∑ k : Fin 3584, (q (ix2 (y 0) k) : EReal) * (w (ix2 k (y 1)) : EReal)) * s := by
  pointwise [k1_pay2]

variable (V : (c : Dev nD) → (b : Ref sig .tc) → Buf (Elt Ideal) ((c : Thread nD τ).loc b)) (c : Dev nD)

/-! ## The blocks -/

theorem idx1_2 : ∀ t : Fin cfg1.N, win1_2.index t = ![t.val / 14, 0] := by decide +kernel
theorem idx1_4 : ∀ t : Fin cfg1.N, win1_4.index t = ![t.val / 14, t.val % 14] := by decide +kernel
theorem idx1_5 : ∀ t : Fin cfg1.N, win1_5.index t = ![t.val / 14, 0] := by decide +kernel
theorem idx1_0 : ∀ t : Fin cfg1.N, win1_0.index t = ![0, 0] := by decide +kernel
theorem idx1_1 : ∀ t : Fin cfg1.N, win1_1.index t = ![0, 0] := by decide +kernel
theorem idx1_3 : ∀ t : Fin cfg1.N, win1_3.index t = ![0, 0] := by decide +kernel

theorem blk1_0_apply (t : Fin cfg1.N) (y : S1x1.Idx) : (blk1 V c 0 t y : EReal) = V c main_v5 y := by
  have e := idx1_0 t
  blk_ext [blk1, e]
theorem blk1_1_apply (t : Fin cfg1.N) (y : S1x1.Idx) : (blk1 V c 1 t y : EReal) = V c main_v6 y := by
  have e := idx1_1 t
  blk_ext [blk1, e]
theorem blk1_2_apply (t : Fin cfg1.N) (y : S256x3584.Idx) (i : Rows.Idx)
    (h0 : (i 0).val = 256 * (t.val / 14) + (y 0).val) (h1 : (i 1).val = (y 1).val) :
    (blk1 V c 2 t y : EReal) = V c main_v0 i := by
  have e := idx1_2 t
  blk_ext [blk1, e, h0, h1]
theorem blk1_3_apply (t : Fin cfg1.N) (y : Weights.Idx) : (blk1 V c 3 t y : EReal) = V c main_arg1 y := by
  have e := idx1_3 t
  blk_ext [blk1, e]

/-- A point's columns of the weights. -/
theorem cols_apply (t : Fin cfg1.N) (y : S3584x1024.Idx) (i : Weights.Idx)
    (h0 : (i 0).val = (y 0).val) (h1 : (i 1).val = 1024 * (t.val % 14) + (y 1).val) :
    (cols (F := Ideal) (blk1 V c 3 t) (grid1.coords t) y : EReal) = V c main_arg1 i := by
  have e1 : (grid1.coords t 1).val = t.val / 1 % 14 := Pipeline.Grid.coords_val t 1 (by decide) rfl
  refine (View.ld_unit_apply_of (Val := Elt Ideal) (e := .fp8e4m3) (blk1 V c 3 t) (k1_off1 (grid1.coords t)) S3584x1024.size _ y i ?_).trans
    (blk1_3_apply V c t i)
  have o0 : k1_off1 (grid1.coords t) 0 = 0 := congrFun (k1_off1_eq (grid1.coords t)) 0
  have o1 : k1_off1 (grid1.coords t) 1 = 1024 * (grid1.coords t 1).val := congrFun (k1_off1_eq (grid1.coords t)) 1
  intro a
  match a with
  | 0 => exact h0.trans ((Nat.zero_add _).symm.trans (congrArg (· + (y 0).val) o0.symm))
  | 1 =>
    refine Eq.trans ?_ (congrArg (· + (y 1).val) o1.symm)
    rw [e1]
    show (i 1).val = 1024 * (t.val / 1 % 14) + (y 1).val
    omega

/-! ## The two arrays after the region -/

/-- The codes of a point's rows. -/
theorem codesAt_apply (X : Rows.Idx → EReal) (h0 : V c main_v0 = X) (h6 : ∀ y, (V c main_v6 y : EReal) = Cert.Own.inv (levelOf X))
    (t : Fin cfg1.N) (y : S256x3584.Idx) (i : Rows.Idx)
    (hi0 : (i 0).val = 256 * (t.val / 14) + (y 0).val) (hi1 : (i 1).val = (y 1).val) :
    (codesAt V c t y : EReal) = codes X i := by
  unfold codesAt codes
  rw [codes_pay_apply]
  congr 1
  rw [one, blk1_1_apply, h6, blk1_2_apply V c (rowStart t) y i (by show (i 0).val = 256 * (14 * (t.val / 14) / 14) + (y 0).val; omega) hi1, h0]

/-- The codes' array. -/
theorem arr1_5 (X : Rows.Idx → EReal) (h0 : V c main_v0 = X) (h6 : ∀ y, (V c main_v6 y : EReal) = Cert.Own.inv (levelOf X)) :
    (dat1 V c).arrAt 5 cfg1.N = codes X := by
  refine (dat1 V c).arrAt_eq_of_covers 5 _ (by decide +kernel) fun t hf y => ?_
  have e := idx1_5 t
  blk_simp
  rw [after1_5]
  refine codesAt_apply V c X h0 h6 t y _ ?_ ?_
  · blk_simp [e]
    omega
  · blk_simp [e]

/-- The tile of a point. -/
theorem tileAt_apply (X : Rows.Idx → EReal) (W : Weights.Idx → EReal) (s : EReal) (h0 : V c main_v0 = X)
    (h6 : ∀ y, (V c main_v6 y : EReal) = Cert.Own.inv (levelOf X)) (h1 : V c main_arg1 = W)
    (h5 : ∀ y, (V c main_v5 y : EReal) = scale (levelOf X) * s)
    (t : Fin cfg1.N) (y : S256x1024.Idx) (i : Product.Idx)
    (hi0 : (i 0).val = 256 * (t.val / 14) + (y 0).val) (hi1 : (i 1).val = 1024 * (t.val % 14) + (y 1).val) :
    (tileAt V c t y : EReal) = product X W s i := by
  have hq : ∀ k : Fin 3584, (codesAt V c t (ix2 (y 0) k) : EReal) = codes X (ix2 (i 0) k) := fun k =>
    codesAt_apply V c X h0 h6 t (ix2 (y 0) k) (ix2 (i 0) k) hi0 rfl
  have hw : ∀ k : Fin 3584, (cols (F := Ideal) (blk1 V c 3 t) (grid1.coords t) (ix2 k (y 1)) : EReal) = W (ix2 k (i 1)) := fun k =>
    (cols_apply V c t (ix2 k (y 1)) (ix2 k (i 1)) rfl hi1).trans (congrFun h1 _)
  have hs : (one (F := Ideal) (blk1 V c 0 t) : EReal) = scale (levelOf X) * s := (blk1_0_apply V c t _).trans (h5 _)
  unfold tileAt product
  generalize codesAt V c t = q at hq ⊢
  generalize cols (F := Ideal) (blk1 V c 3 t) (grid1.coords t) = w at hw ⊢
  generalize one (F := Ideal) (blk1 V c 0 t) = r at hs ⊢
  rw [product_pay_apply, hs]
  exact congrArg (· * (scale (levelOf X) * s)) (Finset.sum_congr rfl fun k _ => by rw [hq, hw])

/-- The product's array. -/
theorem arr1_4 (X : Rows.Idx → EReal) (W : Weights.Idx → EReal) (s : EReal) (h0 : V c main_v0 = X)
    (h6 : ∀ y, (V c main_v6 y : EReal) = Cert.Own.inv (levelOf X)) (h1 : V c main_arg1 = W)
    (h5 : ∀ y, (V c main_v5 y : EReal) = scale (levelOf X) * s) :
    (dat1 V c).arrAt 4 cfg1.N = product X W s := by
  refine (dat1 V c).arrAt_eq_of_covers 4 _ (by decide +kernel) fun t hf y => ?_
  have e := idx1_4 t
  blk_simp
  rw [after1_4]
  refine tileAt_apply V c X W s h0 h6 h1 h5 t y _ ?_ ?_
  · blk_simp [e]
    omega
  · blk_simp [e]
    omega

end Cert.KernelIdeal.Own

end
-- ==== Proof.KernelIdeal.Values.lean ====
/-
  The kernel's three results as functions of the arguments.
-/
module

public import proofs.«01_k».proof.Proof.KernelIdeal.AmaxValues
public import proofs.«01_k».proof.Proof.KernelIdeal.LinearValues

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem W4_v7_0 (hr : InRange (argX m c)) :
    W4 m c (Proc.devRef .tc main_v7_0) = product (flat (argX m c)) (argW m c) (argS m c ix0) :=
  (Pipeline.afterRegion_arr (dat1 (atRefs (W3 m)) c) (W3 m c) launch1.win.arr_inj 4).trans
    (arr1_4 (atRefs (W3 m)) c _ _ _ (W3_v0 m c) (W3_v6 m c hr) (W3_arg1 m c) (W3_v5 m c hr))

theorem W4_v7_1 (hr : InRange (argX m c)) : W4 m c (Proc.devRef .tc main_v7_1) = codes (flat (argX m c)) :=
  (Pipeline.afterRegion_arr (dat1 (atRefs (W3 m)) c) (W3 m c) launch1.win.arr_inj 5).trans
    (arr1_5 (atRefs (W3 m)) c _ (W3_v0 m c) (W3_v6 m c hr))

theorem W5_v8 (hr : InRange (argX m c)) :
    W5 m c (Proc.devRef .tc main_v8) = resultY (argX m c) (argW m c) (argS m c) := by
  simp only [W5]
  unfold hostOps2
  after_results
  rw [W4_v7_0 m c hr]
  rfl

theorem W5_v9 (hr : InRange (argX m c)) : W5 m c (Proc.devRef .tc main_v9) = resultCodes (argX m c) := by
  simp only [W5]
  unfold hostOps2
  after_results
  rw [W4_v7_1 m c hr]
  rfl

theorem W5_v3 (hr : InRange (argX m c)) : W5 m c (Proc.devRef .tc main_v3) = resultScale (argX m c) :=
  ((StableHlo.after_of_writes_sub hostOps2 _ hostOps2_writes (by decide)).trans (keep1 m c main_v3 (by decide))).trans
    (W3_v3 m c hr)

/-- What the run leaves, for arguments in range. -/
theorem results (hr : ∀ c, InRange (argX m c)) :
    θ_run defs (onTc (τ := τ) (main (F := Ideal))) ⟨m, fun _ => 0, ρ⟩ (fun r => ∀ c : Dev nD,
      r.2.mem ((c : Thread nD τ).loc main_v8) = resultY (argX m c) (argW m c) (argS m c)
      ∧ r.2.mem ((c : Thread nD τ).loc main_v9) = resultCodes (argX m c)
      ∧ r.2.mem ((c : Thread nD τ).loc main_v3) = resultScale (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨(h.1 c).1.trans (W5_v8 m c (hr c)), (h.1 c).2.1.trans (W5_v9 m c (hr c)), (h.1 c).2.2.1.trans (W5_v3 m c (hr c)),
      (h.1 c).2.2.2⟩) (run m ρ)

end Cert.KernelIdeal.Own

end
-- ==== Proof.ReferenceIdeal.Scale.lean ====
/-
  The reference's scale: its exponent, counted over the powers of two, is that of the array's level.
-/
module

public import proofs.«01_k».proof.Proof.Gen.ReferenceIdeal.Skeleton
public import proofs.«01_k».proof.Proof.Peak
public import Idealize.ShloMosaic.Lib.Pointwise

@[expose] public section

set_option maxRecDepth 16384

noncomputable section

namespace Cert.ReferenceIdeal.Own

open Cert.ReferenceIdeal Cert.ReferenceIdeal.Gen Cert.Own
open Idealize.ShloMosaic

/-- The largest absolute value as the reference takes it. -/
def top (x : FVec Ideal S16384x3584 .bf16) : FVec Ideal S1 .f32 :=
  multiReduction .maximumf [1] S1 (shapeCast S1x3584
    (multiReduction .maximumf [0] S3584 (absf (k0_pay3 x)) 0xFF800000#32 reduces_S16384x3584_S3584 formats neutral_max)
    shapeCasts_S3584_S1x3584) 0xFF800000#32 reduces_S1x3584_S1 formats neutral_max

/-- The count of the powers of two that a value reaches. -/
def count (v : FVec Ideal S1x1 .f32) : IVec S1 32 :=
  multiReductionI .add [1] S1 (extui 32 (cmpf .oge (broadcastTo S1x254 v broadcasts_S1x1_S1x254)
    (exp2 (sitofp .f32 (subi (iota .tc S1x254 32 [1] iota_S1x254_d1_w32) (broadcast S1x254 126#32))))) natLt_1_32) 0#32 reduces_S1x254_S1 neutral_add

/-- The exponent from the largest absolute value. -/
def tail (a : FVec Ideal S1x1 .f32) : IVec S1x1 32 :=
  have v : FVec Ideal S1x1 .f32 := mulf a (broadcast S1x1 (Scalar.ofBits .f32 0x3B124925#32))
  have n : IVec S1x1 32 := shapeCast S1x1 (count v) shapeCasts_S1_S1x1
  select (cmpf .oeq a (broadcast S1x1 (Scalar.ofBits .f32 0x00000000#32))) (broadcast S1x1 0#32)
    (select (ori (cmpi .eq n (broadcast S1x1 0#32)) (cmpf .oeq v (broadcast S1x1 (Scalar.ofBits .f32 0x7F800000#32))))
      (broadcast S1x1 0#32) (subi n (broadcast S1x1 126#32)))

theorem pay4_eq (x : FVec Ideal S16384x3584 .bf16) : k0_pay4 (F := Ideal) x = tail (shapeCast S1x1 (top x) shapeCasts_S1_S1x1) := rfl

theorem one_index (j k : S1.Idx) : k = j := by
  funext a
  exact Fin.ext (by have h1 : (k a).val < S1.size a := (k a).isLt; have h2 : (j a).val < S1.size a := (j a).isLt
                    have hs : S1.size a = 1 := by match a with | ⟨0, _⟩ => rfl
                    omega)

theorem top_eq (x : FVec Ideal S16384x3584 .bf16) (j : S1.Idx) : (top x j : EReal) = peak (s := S16384x3584) x := by
  refine eq_of_forall_ge_iff fun c => ?_
  unfold top
  rw [peak_le_iff, two_step_le_iff _ _ _ _ _ _ _ (one_index j)]
  refine forall_congr' fun i => ?_
  unfold k0_pay3
  rw [shapeCast_self]
  rfl

theorem count_eq (v : FVec Ideal S1x1 .f32) (a : EReal) (hv : ∀ i, (v i : EReal) = a) (j : S1.Idx) :
    count v j = BitVec.ofNat 32 (min (level a) 254) := by
  unfold count
  rw [multiReductionI_eq_fold, reduces_S1x254_S1.fold_filter_drop_single, ← count_fold a]
  refine Finset.fold_congr fun k _ => ?_
  have eb : (broadcastTo S1x254 v broadcasts_S1x1_S1x254 (reduces_S1x254_S1.lift j k) : EReal) = a := by
    unfold broadcastTo; exact hv _
  have ei : iota .tc S1x254 32 [1] iota_S1x254_d1_w32 (reduces_S1x254_S1.lift j k) = BitVec.ofNat 32 k.val := by
    pointwise
    rfl
  have ee : (exp2 (sitofp .f32 (subi (iota .tc S1x254 32 [1] iota_S1x254_d1_w32) (broadcast S1x254 126#32))) (reduces_S1x254_S1.lift j k) : Ideal .f32)
      = FloatOps.exp2 (F := Ideal) (φ := .f32) (FloatOps.sitofp .f32 (IntOp.subi (BitVec.ofNat 32 k.val) 126#32)) := by
    rw [← ei]; rfl
  rw [← eb, ← ee]
  rfl

theorem select_false (a b : BitVec 32) : Scalar.select (BitVec.ofBool false) a b = b := rfl

theorem pay4_apply (x : FVec Ideal S16384x3584 .bf16) (i : S1x1.Idx) : k0_pay4 (F := Ideal) x i = expoWord (levelOf (s := S16384x3584) x) := by
  rw [pay4_eq]
  have ha : ∀ i, (shapeCast S1x1 (top x) shapeCasts_S1_S1x1 i : EReal) = peak (s := S16384x3584) x := fun i => top_eq x _
  generalize shapeCast S1x1 (top x) shapeCasts_S1_S1x1 = a at ha
  have hn := count_eq (mulf a (broadcast S1x1 (Scalar.ofBits .f32 0x3B124925#32))) (peak (s := S16384x3584) x * perMax)
    (fun i => by rw [← ha i]; rfl)
  unfold tail
  show Scalar.select (BitVec.ofBool (decide ((a i : EReal) = Ideal.ofBits .f32 0#32))) 0#32
    (Scalar.select (IntOp.ori (IntOp.cmpi .eq (count _ (Shape.reshapeEquiv shapeCasts_S1_S1x1 i)) 0#32)
      (BitVec.ofBool (decide ((a i : EReal) * perMax = Ideal.ofBits .f32 (pattern 255))))) 0#32
        (IntOp.subi (count _ (Shape.reshapeEquiv shapeCasts_S1_S1x1 i)) 126#32)) = _
  rw [hn, ha, ofBits_pattern_top]
  rw [Ideal.ofBits_zero_f32]
  have hj := level_le (peak (s := S16384x3584) x * perMax)
  have ht : (peak (s := S16384x3584) x * perMax = ⊤) = (level (peak (s := S16384x3584) x * perMax) = 255) := by
    rw [← _root_.top_le_iff, Cert.Own.top_le_iff]
    exact propext ⟨fun h => by omega, fun h => by omega⟩
  have hw := count_words ⟨level (peak (s := S16384x3584) x * perMax), by omega⟩
  dsimp only at hw
  have hd : decide (peak (s := S16384x3584) x * perMax = ⊤) = decide (level (peak (s := S16384x3584) x * perMax) = 255) :=
    decide_eq_decide.mpr (iff_of_eq ht)
  rw [hd]
  unfold levelOf
  by_cases hz : peak (s := S16384x3584) x = 0
  · rw [decide_eq_true hz]
    refine Eq.trans (if_pos (by decide)) ?_
    rw [hz, zero_mul, level_zero]; rfl
  · rw [decide_eq_false hz]
    rw [select_false]
    rw [hw]

end Cert.ReferenceIdeal.Own

end
-- ==== Proof.ReferenceIdeal.Payloads.lean ====
/-
  The reference's three results, element by element.
-/
module

public import proofs.«01_k».proof.Proof.ReferenceIdeal.Scale
public import proofs.«01_k».proof.Proof.Gen.ReferenceIdeal.Frame
public import proofs.«01_k».proof.Proof.Quantize
public import Idealize.ShloMosaic.Lib.Pipeline.ValueKit

@[expose] public section

set_option maxRecDepth 16384

noncomputable section

namespace Cert.ReferenceIdeal.Own

open Cert.ReferenceIdeal Cert.ReferenceIdeal.Gen Cert.Own
open Idealize.ShloMosaic

theorem pay5_apply (x : FVec Ideal S16384x3584 .bf16) (i : S1x1.Idx) :
    (k0_pay5 (F := Ideal) x i : EReal) = scale (levelOf (s := Rows) x) := by
  unfold k0_pay5
  show FloatOps.exp2 (F := Ideal) (φ := .f32) (FloatOps.sitofp .f32 (k0_pay4 (F := Ideal) x i)) = _
  rw [pay4_apply]
  exact exp2_scale _ (level_le _)

theorem pay6_apply (x : FVec Ideal S16384x3584 .bf16) (i : S16384x3584.Idx) :
    k0_pay6 (F := Ideal) x i = (max (Ideal.ofBits .f32 0xC3E00000#32) (x i * Cert.Own.inv (levelOf (s := Rows) x) : EReal) : EReal) := by
  pointwise [k0_pay6, k0_pay3]
  rw [pay4_apply, exp2_inv (levelOf (s := Rows) x) (level_le _)]

theorem pay1_apply (x : FVec Ideal S16384x3584 .bf16) (i : S16384x3584.Idx) :
    k0_pay1 (F := Ideal) (k0_pay6 (F := Ideal) x) (k0_pay7 (F := Ideal)) i = codes x i := by
  pointwise [k0_pay1, k0_pay7]
  rw [pay6_apply]
  rfl

theorem pay2_apply (x : FVec Ideal S16384x3584 .bf16) (w : FVec Ideal S3584x14336 .fp8e4m3) (s : FVec Ideal S1x1 .f32) (i : S16384x14336.Idx) :
    k0_pay2 (F := Ideal) (k0_pay5 (F := Ideal) x) (k0_pay6 (F := Ideal) x) (k0_pay7 (F := Ideal)) w s i = product x w (s (ix2 0 0)) i := by
  have h1 := pay1_apply x
  have h5 := pay5_apply x
  unfold k0_pay2
  generalize k0_pay1 (F := Ideal) (k0_pay6 (F := Ideal) x) (k0_pay7 (F := Ideal)) = c at h1
  generalize k0_pay5 (F := Ideal) x = e at h5
  pointwise
  unfold product
  simp only [h1, h5]

end Cert.ReferenceIdeal.Own

end
-- ==== Proof.ReferenceIdeal.Values.lean ====
/-
  The reference's run: its three results as functions of the arguments.
-/
module

public import proofs.«01_k».proof.Proof.ReferenceIdeal.Payloads

@[expose] public section

set_option maxRecDepth 16384

noncomputable section

namespace Cert.ReferenceIdeal.Own

open Cert.ReferenceIdeal Cert.ReferenceIdeal.Gen Cert.Own
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

/-- The arguments of a device. -/
abbrev argX : Batch.Idx → EReal := m ((c : Thread nD τ).loc main_arg0)
abbrev argW : Weights.Idx → EReal := m ((c : Thread nD τ).loc main_arg1)
abbrev argS : One.Idx → EReal := m ((c : Thread nD τ).loc main_arg2)

theorem V_main_v0 (i : S1x1.Idx) : V m c main_v0 i = argS m c ix0 := by
  simp only [V, V0, List.flatten_cons, List.flatten_nil, List.append_nil]
  unfold hostOps0
  after_results
  exact congrArg (argS m c) (funext fun k => k.elim0)

theorem V_main_v1 : V m c main_v1 = flat (argX m c) := by
  simp only [V, V0, List.flatten_cons, List.flatten_nil, List.append_nil]
  unfold hostOps0
  after_results
  rfl

theorem idx0 (t : Fin cfg0.N) (a : Fin 2) : win0_0.index t a = 0 := rfl
theorem idx1 (t : Fin cfg0.N) (a : Fin 2) : win0_1.index t a = 0 := rfl
theorem idx2 (t : Fin cfg0.N) (a : Fin 2) : win0_2.index t a = 0 := rfl
theorem idx3 (t : Fin cfg0.N) (a : Fin 2) : win0_3.index t a = 0 := rfl
theorem idx4 (t : Fin cfg0.N) (a : Fin 2) : win0_4.index t a = 0 := rfl
theorem idx5 (t : Fin cfg0.N) (a : Fin 2) : win0_5.index t a = 0 := rfl

theorem block0 (t : Fin cfg0.N) : iblk m c 0 t = V m c main_v0 := by
  funext y; blk_ext [iblk, idx0 t]
theorem block1 (t : Fin cfg0.N) : iblk m c 1 t = V m c main_v1 := by
  funext y; blk_ext [iblk, idx1 t]
theorem block2 (t : Fin cfg0.N) : iblk m c 2 t = V m c main_arg1 := by
  funext y; blk_ext [iblk, idx2 t]

theorem arr3 : (dats m 0 c).arrAt 3 cfg0.N = product (flat (argX m c)) (argW m c) (argS m c ix0) := by
  refine (dats m 0 c).arrAt_eq_of_covers 3 _ (by decide +kernel) fun t hf y => ?_
  blk_simp
  rw [after0_3]
  unfold_out out0_3
  frame_out
  rw [block0, block1, block2, pay2_apply, V_main_v0, V_main_v1, V_main_arg1]
  blk_ext [idx3 t]

theorem arr4 : (dats m 0 c).arrAt 4 cfg0.N = codes (flat (argX m c)) := by
  refine (dats m 0 c).arrAt_eq_of_covers 4 _ (by decide +kernel) fun t hf y => ?_
  blk_simp
  rw [after0_4]
  unfold_out out0_4
  frame_out
  rw [block1, pay1_apply, V_main_v1]
  blk_ext [idx4 t]

theorem arr5 (i : S1x1.Idx) : (dats m 0 c).arrAt 5 cfg0.N i = scale (levelOf (flat (argX m c))) := by
  refine congrFun ((dats m 0 c).arrAt_eq_of_covers 5 (fun _ => scale (levelOf (flat (argX m c)))) (by decide +kernel)
    fun t hf y => ?_) i
  blk_simp
  rw [after0_5]
  unfold_out out0_5
  frame_out
  rw [block1, pay5_apply, V_main_v1]

theorem win_inj : Function.Injective (Pipeline.arrRef spec0) := by decide

theorem tail3 : Pipeline.afterTail₀ cfgs (dats m) 0 (V0 m) [hostOps1] c main_v3
    = resultY (argX m c) (argW m c) (argS m c) := by
  unfold Pipeline.afterTail₀
  simp only [List.flatten_cons, List.flatten_nil, List.append_nil]
  unfold hostOps1
  after_results
  have e := Pipeline.withArrays_arr spec0 win_inj c (V0 m c) (fun w => (dats m 0 c).arrAt w cfg0.N) 3
  rw [arr3] at e
  exact congrArg (fun a : Product.Idx → EReal => shapeCast Outs a outs_casts) e

theorem tail4 : Pipeline.afterTail₀ cfgs (dats m) 0 (V0 m) [hostOps1] c main_v4 = resultCodes (argX m c) := by
  unfold Pipeline.afterTail₀
  simp only [List.flatten_cons, List.flatten_nil, List.append_nil]
  unfold hostOps1
  after_results
  have e := Pipeline.withArrays_arr spec0 win_inj c (V0 m c) (fun w => (dats m 0 c).arrAt w cfg0.N) 4
  rw [arr4] at e
  exact congrArg (fun a : Rows.Idx → EReal => shapeCast Batch a batch_casts') e

theorem tail5 : Pipeline.afterTail₀ cfgs (dats m) 0 (V0 m) [hostOps1] c main_v5 = resultScale (argX m c) := by
  unfold Pipeline.afterTail₀
  simp only [List.flatten_cons, List.flatten_nil, List.append_nil]
  unfold hostOps1
  after_results
  have e := Pipeline.withArrays_arr spec0 win_inj c (V0 m c) (fun w => (dats m 0 c).arrAt w cfg0.N) 5
  funext i
  exact (congrFun e _).trans (arr5 m c _)

theorem run : θ_run defs (onTc (τ := τ) (main (F := Ideal))) ⟨m, fun _ => 0, ρ⟩ (fun r => ∀ c : Dev nD,
      r.2.mem ((c : Thread nD τ).loc main_v3) = resultY (argX m c) (argW m c) (argS m c)
      ∧ r.2.mem ((c : Thread nD τ).loc main_v4) = resultCodes (argX m c)
      ∧ r.2.mem ((c : Thread nD τ).loc main_v5) = resultScale (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  run_from Gen.run_main m ρ
  · exact tail3 m c
  · exact tail4 m c
  · exact tail5 m c
  · exact W_main_arg0 m (dats m) c
  · exact W_main_arg2 m (dats m) c

end Cert.ReferenceIdeal.Own

end
-- ==== Proof.InRange.lean ====
/-
  The precondition read as a statement about the entries of the first argument.
-/
module

public import proofs.«01_k».proof.Pre_in_range
public import proofs.«01_k».proof.Proof.Quantize
public import Idealize.ShloMosaic.Lib.ReduceAll

@[expose] public section

set_option maxRecDepth 16384

noncomputable section

namespace Cert.Pre_in_range.Own

open Cert.Pre_in_range Cert.Own
open Idealize.ShloMosaic

/-- The side conditions of the precondition's operations. -/
theorem facts : Facts := ⟨by decide, by decide, by decide⟩

/-- The precondition holds only where every entry is at most the largest bf16 number in size, or infinite. -/
theorem decode [Facts] (x : Batch.Idx → EReal) (w : Weights.Idx → EReal) (s : One.Idx → EReal)
    (h : fn (F := Ideal) x w s = fun _ => 1#1) : InRange x := by
  intro i
  have e := congrFun h ix0
  haveI : Subsingleton S_.Idx := ⟨fun a b => funext fun k => k.elim0⟩
  have e1 := Host.reduce_andi_all _ _ _ _ _ e i
  rcases IntOp.ori_eq_one.1 e1 with h1 | h1
  · left
    exact (Idealize.ShloMosaic.Ideal.cmp_ole_eq_one (max (x i) (-(x i))) _).1 h1
  · right
    exact (Idealize.ShloMosaic.Ideal.cmp_oeq_eq_one (max (x i) (-(x i))) _).1 h1

end Cert.Pre_in_range.Own

end
-- ==== Proof.lean ====
/-
  The claim: the frames of the kernel as printed, of the kernel read over the extended reals and of the reference read
  over the extended reals, and that the latter two end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Unchanged
public import proofs.«01_k».proof.Proof.KernelIdeal.Unchanged
public import proofs.«01_k».proof.Proof.KernelIdeal.Values
public import proofs.«01_k».proof.Proof.ReferenceIdeal.Values
public import proofs.«01_k».proof.Proof.InRange
public import Idealize.ShloMosaic.Adequacy
public import Idealize.ShloMosaic.Init

@[expose] public section

noncomputable section

namespace Cert.Proof

open Idealize.ShloMosaic Idealize.SL.Sem

/-- From arguments in range both programs end with the same three results, which are named functions of the arguments. -/
theorem algebraic : Cert.algebraic_KernelIdeal_ReferenceIdeal_pre_in_range
    (hKernelIdeal := Cert.KernelIdeal.Gen.facts) (hReferenceIdeal := Cert.ReferenceIdeal.Gen.facts)
    (hPre_in_range := Cert.Pre_in_range.Own.facts) := by
  intro m g m' g' hp hargs
  have hr : ∀ c, Cert.Own.InRange (Cert.KernelIdeal.Own.argX m c) := fun c =>
    letI := Cert.Pre_in_range.Own.facts
    Cert.Pre_in_range.Own.decode _ _ _ (hp c)
  have eX : ∀ c, Cert.ReferenceIdeal.Own.argX m' c = Cert.KernelIdeal.Own.argX m c := fun c => (hargs c).1
  have eW : ∀ c, Cert.ReferenceIdeal.Own.argW m' c = Cert.KernelIdeal.Own.argW m c := fun c => (hargs c).2.1
  have eS : ∀ c, Cert.ReferenceIdeal.Own.argS m' c = Cert.KernelIdeal.Own.argS m c := fun c => (hargs c).2.2
  refine ⟨_, _, _, Cert.KernelIdeal.Own.results m g hr, ?_⟩
  refine (θ_run _ _ _).mono (fun _ h c => ?_) (Cert.ReferenceIdeal.Own.run m' g')
  obtain ⟨h0, h1, h2, ha⟩ := h c
  rw [eX c] at h0 h1 h2
  rw [eW c, eS c] at h0
  exact ⟨h0, h1, h2, ha⟩

theorem claim : Cert.Claim :=
  ⟨Cert.Kernel.Gen.facts, Cert.KernelIdeal.Gen.facts, Cert.ReferenceIdeal.Gen.facts, Cert.Pre_in_range.Own.facts,
    fun m g _ => Cert.Kernel.Own.frame m g,
    fun m g _ => Cert.KernelIdeal.Own.frame m g,
    fun m g _ => Cert.KernelIdeal.Own.frame m g,
    fun m g _ => Cert.ReferenceIdeal.Gen.frame m g,
    fun m g _ => Cert.ReferenceIdeal.Gen.frame m g,
    trivial,
    algebraic⟩

end Cert.Proof

end
